-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens_and_keys_KernelIdeal [hPre_finite_tokens_and_keys_KernelIdeal : Cert.Pre_finite_tokens_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens_and_keys_ReferenceIdeal [hPre_finite_tokens_and_keys_ReferenceIdeal : Cert.Pre_finite_tokens_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_tokens_and_keys_KernelIdeal [hKernelIdeal : Cert.KernelIdeal.Facts] [hPre_finite_tokens_and_keys_KernelIdeal : Cert.Pre_finite_tokens_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_tokens_and_keys_ReferenceIdeal [hReferenceIdeal : Cert.ReferenceIdeal.Facts] [hPre_finite_tokens_and_keys_ReferenceIdeal : Cert.Pre_finite_tokens_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_tokens_and_keys_KernelIdeal [hKernelIdeal : Cert.KernelIdeal.Facts] [hReferenceIdeal : Cert.ReferenceIdeal.Facts] [hPre_finite_tokens_and_keys_KernelIdeal : Cert.Pre_finite_tokens_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens_and_keys_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_tokens_and_keys_KernelIdeal : Cert.Pre_finite_tokens_and_keys_KernelIdeal.Facts) (hPre_finite_tokens_and_keys_ReferenceIdeal : Cert.Pre_finite_tokens_and_keys_ReferenceIdeal.Facts),
    quiescent_Kernel (hKernel := hKernel)
    ∧ quiescent_KernelIdeal (hKernelIdeal := hKernelIdeal)
    ∧ quiescent_KernelIdeal_pre_finite_tokens_and_keys_KernelIdeal (hKernelIdeal := hKernelIdeal) (hPre_finite_tokens_and_keys_KernelIdeal := hPre_finite_tokens_and_keys_KernelIdeal)
    ∧ quiescent_ReferenceIdeal (hReferenceIdeal := hReferenceIdeal)
    ∧ quiescent_ReferenceIdeal_pre_finite_tokens_and_keys_ReferenceIdeal (hReferenceIdeal := hReferenceIdeal) (hPre_finite_tokens_and_keys_ReferenceIdeal := hPre_finite_tokens_and_keys_ReferenceIdeal)
    ∧ preserves_Kernel_KernelIdeal
    ∧ algebraic_KernelIdeal_ReferenceIdeal_pre_finite_tokens_and_keys_KernelIdeal (hKernelIdeal := hKernelIdeal) (hReferenceIdeal := hReferenceIdeal) (hPre_finite_tokens_and_keys_KernelIdeal := hPre_finite_tokens_and_keys_KernelIdeal)
-- ==== Pre_finite_tokens_and_keys_KernelIdeal.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S2x256x32x64 : S_.BroadcastsInDim S2x256x32x64 (![] : Fin 0 → Fin S2x256x32x64.rank)
  reducesTo_S2x256x32x64_S_d0_1_2_3 : S2x256x32x64.ReducesTo [0, 1, 2, 3] S_

variable [Facts]

def fn {F : FTy → Type} [FloatOps F] (main_arg0 : FVec F S2x256x512 .f32) (main_arg1 : FVec F S512x256 .f32) (main_arg2 : FVec F S2x256x32x64 .f32) (main_arg3 : FVec F S2x256x32x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S2x256x32x64 .f32 := Host.absf main_arg2
  let main_cst_0 : FVec F S_ .f32 := constant S_ .f32 0x7F800000#32
  let main_v5 : FVec F S2x256x32x64 .f32 := broadcastInDim S2x256x32x64 ![] bcast_S_S2x256x32x64 main_cst_0
  let main_v6 : IVec S2x256x32x64 1 := cmpf .olt main_v4 main_v5
  let main_c_1 : IVec S_ 1 := constantI S_ 1 1#1
  let main_v7 : IVec S_ 1 := (fun x v => Host.reduce IntOp.andi x v reducesTo_S2x256x32x64_S_d0_1_2_3 h_S_) main_v6 main_c_1
  let main_v8 : IVec S_ 1 := andi main_v3 main_v7
  main_v8
-- ==== Pre_finite_tokens_and_keys_ReferenceIdeal.lean ====
abbrev S2x2048x512 : Shape := ⟨3, ![2, 2048, 512]⟩
abbrev S512x2048 : Shape := ⟨2, ![512, 2048]⟩
abbrev S2x256x32x64 : Shape := ⟨4, ![2, 256, 32, 64]⟩
abbrev S2048x512 : Shape := ⟨2, ![2048, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x256x32x64 : S_.BroadcastsInDim S2x256x32x64 (![] : Fin 0 → Fin S2x256x32x64.rank)
  reducesTo_S2x256x32x64_S_d0_1_2_3 : S2x256x32x64.ReducesTo [0, 1, 2, 3] S_

variable [Facts]

def fn {F : FTy → Type} [FloatOps F] (main_arg0 : FVec F S2x2048x512 .f32) (main_arg1 : FVec F S512x2048 .f32) (main_arg2 : FVec F S2x256x32x64 .f32) (main_arg3 : FVec F S2x256x32x64 .f32) (main_arg4 : FVec F S2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x256x32x64 .f32 := Host.absf main_arg2
  let main_cst_0 : FVec F S_ .f32 := constant S_ .f32 0x7F800000#32
  let main_v5 : FVec F S2x256x32x64 .f32 := broadcastInDim S2x256x32x64 ![] bcast_S_S2x256x32x64 main_cst_0
  let main_v6 : IVec S2x256x32x64 1 := cmpf .olt main_v4 main_v5
  let main_c_1 : IVec S_ 1 := constantI S_ 1 1#1
  let main_v7 : IVec S_ 1 := (fun x v => Host.reduce IntOp.andi x v reducesTo_S2x256x32x64_S_d0_1_2_3 h_S_) main_v6 main_c_1
  let main_v8 : IVec S_ 1 := andi main_v3 main_v7
  main_v8
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S2x32x64x256 : Shape := ⟨4, ![2, 32, 64, 256]⟩
abbrev S2x32x256x64 : Shape := ⟨4, ![2, 32, 256, 64]⟩
abbrev S_ : Shape := ⟨0, ![]⟩
abbrev S512x512 : Shape := ⟨2, ![512, 512]⟩
abbrev S5x512x256 : Shape := ⟨3, ![5, 512, 256]⟩
abbrev S4x256x512 : Shape := ⟨3, ![4, 256, 512]⟩
abbrev S4x512x256 : Shape := ⟨3, ![4, 512, 256]⟩
abbrev S5x256x512 : Shape := ⟨3, ![5, 256, 512]⟩
abbrev S4 : Shape := ⟨1, ![4]⟩
abbrev S3 : Shape := ⟨1, ![3]⟩
abbrev S1x512x256 : Shape := ⟨3, ![1, 512, 256]⟩
abbrev S1x256x512 : Shape := ⟨3, ![1, 256, 512]⟩
abbrev S256x256 : Shape := ⟨2, ![256, 256]⟩
abbrev S1 : Shape := ⟨1, ![1]⟩
abbrev S1x4x64x256 : Shape := ⟨4, ![1, 4, 64, 256]⟩
abbrev S4x64x256 : Shape := ⟨3, ![4, 64, 256]⟩
abbrev S1x4x256x64 : Shape := ⟨4, ![1, 4, 256, 64]⟩
abbrev S4x256x64 : Shape := ⟨3, ![4, 256, 64]⟩
abbrev S256x64 : Shape := ⟨2, ![256, 64]⟩
abbrev S1x64x256 : Shape := ⟨3, ![1, 64, 256]⟩
abbrev S64x256 : Shape := ⟨2, ![64, 256]⟩
abbrev S256 : Shape := ⟨1, ![256]⟩
abbrev S256x1 : Shape := ⟨2, ![256, 1]⟩
abbrev S1x256x64 : Shape := ⟨3, ![1, 256, 64]⟩

abbrev nBuf : Space → Nat
  | .hbm => 13
  | .vmem => 11
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x32x64, .f32⟩
  | .hbm, ⟨3, _⟩ => ⟨S2x256x32x64, .f32⟩
  | .hbm, ⟨4, _⟩ => ⟨S256x512, .f32⟩
  | .hbm, ⟨5, _⟩ => ⟨S2x32x64x256, .f32⟩
  | .hbm, ⟨6, _⟩ => ⟨S2x32x64x256, .bf16⟩
  | .hbm, ⟨7, _⟩ => ⟨S2x32x256x64, .f32⟩
  | .hbm, ⟨8, _⟩ => ⟨S_, .f32⟩
  | .hbm, ⟨9, _⟩ => ⟨S2x32x256x64, .f32⟩
  | .hbm, ⟨10, _⟩ => ⟨S2x32x256x64, .f32⟩
  | .hbm, ⟨11, _⟩ => ⟨S2x32x256x64, .bf16⟩
  | .hbm, ⟨12, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x32x64x256, .bf16⟩
  | .local _ .vmem, ⟨3, _⟩ => ⟨S2x32x256x64, .bf16⟩
  | .local _ .vmem, ⟨4, _⟩ => ⟨S256x512, .f32⟩
  | .local _ .vmem, ⟨5, _⟩ => ⟨S2x256x512, .f32⟩
  | .local _ .vmem, ⟨6, _⟩ => ⟨S512x512, .bf16⟩
  | .local _ .vmem, ⟨7, _⟩ => ⟨S5x512x256, .i8⟩
  | .local _ .vmem, ⟨8, _⟩ => ⟨S4x256x512, .i8⟩
  | .local _ .vmem, ⟨9, _⟩ => ⟨S4x512x256, .i8⟩
  | .local _ .vmem, ⟨10, _⟩ => ⟨S5x256x512, .i8⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_18 : BitVec 32 := 1#32
  let v35 : BitVec 32 := Scalar.muli v19 c1_i32_18
  let v36 : BitVec 32 := Scalar.addi c0_i32_19 v35
  v36.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.addi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_21 : BitVec 32 := 1#32
  let v37 : BitVec 32 := Scalar.muli v33 c1_i32_21
  let v38 : BitVec 32 := Scalar.addi c0_i32_22 v37
  v38.toNat
def k0_dev3 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.addi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_74 : BitVec 32 := 1#32
  let v157 : BitVec 32 := Scalar.muli v33 c1_i32_74
  let v158 : BitVec 32 := Scalar.addi c0_i32_75 v157
  v158.toNat
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.addi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_84 : BitVec 32 := 1#32
  let v167 : BitVec 32 := Scalar.muli v33 c1_i32_84
  let v168 : BitVec 32 := Scalar.addi c0_i32_85 v167
  v168.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_94 : BitVec 32 := 1#32
  let v177 : BitVec 32 := Scalar.muli v19 c1_i32_94
  let v178 : BitVec 32 := Scalar.addi c0_i32_95 v177
  v178.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_104 : BitVec 32 := 1#32
  let v187 : BitVec 32 := Scalar.muli v19 c1_i32_104
  let v188 : BitVec 32 := Scalar.addi c0_i32_105 v187
  v188.toNat
def k0_off1 (d0 : Dev nD) : Fin 4 → Nat :=
  let c0_120 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v206 : BitVec 32 := Scalar.muli v2 c4_i32_119
  let v207 : Index := Scalar.indexCast v206
  let c0_121 : Index := 0#32
  let c0_122 : Index := 0#32
  ![0, v207.toNat, 0, 0]
def k0_off2 (d0 : Dev nD) : Fin 4 → Nat :=
  let c0_124 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_123 : BitVec 32 := 4#32
  let v210 : BitVec 32 := Scalar.muli v2 c4_i32_123
  let v211 : Index := Scalar.indexCast v210
  let c0_125 : Index := 0#32
  let c0_126 : Index := 0#32
  ![0, v211.toNat, 0, 0]
def k0_off3 (d0 : Dev nD) : Fin 4 → Nat :=
  let c1 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_143 : BitVec 32 := 4#32
  let v279 : BitVec 32 := Scalar.muli v2 c4_i32_143
  let v280 : Index := Scalar.indexCast v279
  let c0_144 : Index := 0#32
  let c0_145 : Index := 0#32
  ![1, v280.toNat, 0, 0]
def k0_off4 (d0 : Dev nD) : Fin 4 → Nat :=
  let c1_147 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_146 : BitVec 32 := 4#32
  let v283 : BitVec 32 := Scalar.muli v2 c4_i32_146
  let v284 : Index := Scalar.indexCast v283
  let c0_148 : Index := 0#32
  let c0_149 : Index := 0#32
  ![1, v284.toNat, 0, 0]
def k0_dev7 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.addi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_250 : BitVec 32 := 1#32
  let v412 : BitVec 32 := Scalar.muli v33 c1_i32_250
  let v413 : BitVec 32 := Scalar.addi c0_i32_251 v412
  v413.toNat
def k0_dev8 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.addi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_260 : BitVec 32 := 1#32
  let v422 : BitVec 32 := Scalar.muli v33 c1_i32_260
  let v423 : BitVec 32 := Scalar.addi c0_i32_261 v422
  v423.toNat
def k0_dev9 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_270 : BitVec 32 := 1#32
  let v432 : BitVec 32 := Scalar.muli v19 c1_i32_270
  let v433 : BitVec 32 := Scalar.addi c0_i32_271 v432
  v433.toNat
def k0_dev10 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_280 : BitVec 32 := 1#32
  let v442 : BitVec 32 := Scalar.muli v19 c1_i32_280
  let v443 : BitVec 32 := Scalar.addi c0_i32_281 v442
  v443.toNat
def k0_off5 (d0 : Dev nD) (c1_i32_286 : BitVec 32) : Fin 4 → Nat :=
  let c0_305 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v452 : BitVec 32 := Scalar.subi v5 c1_i32_286
  let c8_i32_287 : BitVec 32 := 8#32
  let c0_i32_288 : BitVec 32 := 0#32
  let v453 : BitVec 1 := Scalar.cmpi .eq c8_i32_287 c0_i32_288
  let c1_i32_289 : BitVec 32 := 1#32
  let v454 : BitVec 32 := Scalar.select v453 c1_i32_289 c8_i32_287
  let v455 : BitVec 32 := Scalar.remsi v452 v454
  let c0_i32_291 : BitVec 32 := 0#32
  let v457 : BitVec 1 := Scalar.cmpi .slt v455 c0_i32_291
  let c0_i32_292 : BitVec 32 := 0#32
  let v458 : BitVec 1 := Scalar.cmpi .slt v454 c0_i32_292
  let v459 : BitVec 1 := Scalar.xori v457 v458
  let c0_i32_290 : BitVec 32 := 0#32
  let v456 : BitVec 1 := Scalar.cmpi .ne v455 c0_i32_290
  let v460 : BitVec 1 := Scalar.andi v459 v456
  let v461 : BitVec 32 := Scalar.addi v455 v454
  let v462 : BitVec 32 := Scalar.select v460 v461 v455
  let c4_i32_293 : BitVec 32 := 4#32
  let v463 : BitVec 1 := Scalar.cmpi .slt v462 c4_i32_293
  let c11_i32_294 : BitVec 32 := 11#32
  let v464 : BitVec 32 := Scalar.subi c11_i32_294 v462
  let v465 : BitVec 32 := Scalar.select v463 v462 v464
  let c4_i32_304 : BitVec 32 := 4#32
  let v475 : BitVec 32 := Scalar.muli v465 c4_i32_304
  let v476 : Index := Scalar.indexCast v475
  let c0_306 : Index := 0#32
  let c0_307 : Index := 0#32
  ![0, v476.toNat, 0, 0]
def k0_off6 (d0 : Dev nD) (c1_i32_286 : BitVec 32) : Fin 4 → Nat :=
  let c0_309 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v452 : BitVec 32 := Scalar.subi v5 c1_i32_286
  let c8_i32_287 : BitVec 32 := 8#32
  let c0_i32_288 : BitVec 32 := 0#32
  let v453 : BitVec 1 := Scalar.cmpi .eq c8_i32_287 c0_i32_288
  let c1_i32_289 : BitVec 32 := 1#32
  let v454 : BitVec 32 := Scalar.select v453 c1_i32_289 c8_i32_287
  let v455 : BitVec 32 := Scalar.remsi v452 v454
  let c0_i32_291 : BitVec 32 := 0#32
  let v457 : BitVec 1 := Scalar.cmpi .slt v455 c0_i32_291
  let c0_i32_292 : BitVec 32 := 0#32
  let v458 : BitVec 1 := Scalar.cmpi .slt v454 c0_i32_292
  let v459 : BitVec 1 := Scalar.xori v457 v458
  let c0_i32_290 : BitVec 32 := 0#32
  let v456 : BitVec 1 := Scalar.cmpi .ne v455 c0_i32_290
  let v460 : BitVec 1 := Scalar.andi v459 v456
  let v461 : BitVec 32 := Scalar.addi v455 v454
  let v462 : BitVec 32 := Scalar.select v460 v461 v455
  let c4_i32_293 : BitVec 32 := 4#32
  let v463 : BitVec 1 := Scalar.cmpi .slt v462 c4_i32_293
  let c11_i32_294 : BitVec 32 := 11#32
  let v464 : BitVec 32 := Scalar.subi c11_i32_294 v462
  let v465 : BitVec 32 := Scalar.select v463 v462 v464
  let c4_i32_308 : BitVec 32 := 4#32
  let v479 : BitVec 32 := Scalar.muli v465 c4_i32_308
  let v480 : Index := Scalar.indexCast v479
  let c0_310 : Index := 0#32
  let c0_311 : Index := 0#32
  ![0, v480.toNat, 0, 0]
def k0_off7 (d0 : Dev nD) (c1_i32_286 : BitVec 32) : Fin 4 → Nat :=
  let c1_329 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v452 : BitVec 32 := Scalar.subi v5 c1_i32_286
  let c8_i32_287 : BitVec 32 := 8#32
  let c0_i32_288 : BitVec 32 := 0#32
  let v453 : BitVec 1 := Scalar.cmpi .eq c8_i32_287 c0_i32_288
  let c1_i32_289 : BitVec 32 := 1#32
  let v454 : BitVec 32 := Scalar.select v453 c1_i32_289 c8_i32_287
  let v455 : BitVec 32 := Scalar.remsi v452 v454
  let c0_i32_291 : BitVec 32 := 0#32
  let v457 : BitVec 1 := Scalar.cmpi .slt v455 c0_i32_291
  let c0_i32_292 : BitVec 32 := 0#32
  let v458 : BitVec 1 := Scalar.cmpi .slt v454 c0_i32_292
  let v459 : BitVec 1 := Scalar.xori v457 v458
  let c0_i32_290 : BitVec 32 := 0#32
  let v456 : BitVec 1 := Scalar.cmpi .ne v455 c0_i32_290
  let v460 : BitVec 1 := Scalar.andi v459 v456
  let v461 : BitVec 32 := Scalar.addi v455 v454
  let v462 : BitVec 32 := Scalar.select v460 v461 v455
  let c4_i32_293 : BitVec 32 := 4#32
  let v463 : BitVec 1 := Scalar.cmpi .slt v462 c4_i32_293
  let c11_i32_294 : BitVec 32 := 11#32
  let v464 : BitVec 32 := Scalar.subi c11_i32_294 v462
  let v465 : BitVec 32 := Scalar.select v463 v462 v464
  let c4_i32_328 : BitVec 32 := 4#32
  let v548 : BitVec 32 := Scalar.muli v465 c4_i32_328
  let v549 : Index := Scalar.indexCast v548
  let c0_330 : Index := 0#32
  let c0_331 : Index := 0#32
  ![1, v549.toNat, 0, 0]
def k0_off8 (d0 : Dev nD) (c1_i32_286 : BitVec 32) : Fin 4 → Nat :=
  let c1_333 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v452 : BitVec 32 := Scalar.subi v5 c1_i32_286
  let c8_i32_287 : BitVec 32 := 8#32
  let c0_i32_288 : BitVec 32 := 0#32
  let v453 : BitVec 1 := Scalar.cmpi .eq c8_i32_287 c0_i32_288
  let c1_i32_289 : BitVec 32 := 1#32
  let v454 : BitVec 32 := Scalar.select v453 c1_i32_289 c8_i32_287
  let v455 : BitVec 32 := Scalar.remsi v452 v454
  let c0_i32_291 : BitVec 32 := 0#32
  let v457 : BitVec 1 := Scalar.cmpi .slt v455 c0_i32_291
  let c0_i32_292 : BitVec 32 := 0#32
  let v458 : BitVec 1 := Scalar.cmpi .slt v454 c0_i32_292
  let v459 : BitVec 1 := Scalar.xori v457 v458
  let c0_i32_290 : BitVec 32 := 0#32
  let v456 : BitVec 1 := Scalar.cmpi .ne v455 c0_i32_290
  let v460 : BitVec 1 := Scalar.andi v459 v456
  let v461 : BitVec 32 := Scalar.addi v455 v454
  let v462 : BitVec 32 := Scalar.select v460 v461 v455
  let c4_i32_293 : BitVec 32 := 4#32
  let v463 : BitVec 1 := Scalar.cmpi .slt v462 c4_i32_293
  let c11_i32_294 : BitVec 32 := 11#32
  let v464 : BitVec 32 := Scalar.subi c11_i32_294 v462
  let v465 : BitVec 32 := Scalar.select v463 v462 v464
  let c4_i32_332 : BitVec 32 := 4#32
  let v552 : BitVec 32 := Scalar.muli v465 c4_i32_332
  let v553 : Index := Scalar.indexCast v552
  let c0_334 : Index := 0#32
  let c0_335 : Index := 0#32
  ![1, v553.toNat, 0, 0]
def k0_off9 (d0 : Dev nD) (c1_i32_359 : BitVec 32) : Fin 4 → Nat :=
  let c0_378 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v628 : BitVec 32 := Scalar.addi v5 c1_i32_359
  let c8_i32_360 : BitVec 32 := 8#32
  let c0_i32_361 : BitVec 32 := 0#32
  let v629 : BitVec 1 := Scalar.cmpi .eq c8_i32_360 c0_i32_361
  let c1_i32_362 : BitVec 32 := 1#32
  let v630 : BitVec 32 := Scalar.select v629 c1_i32_362 c8_i32_360
  let v631 : BitVec 32 := Scalar.remsi v628 v630
  let c0_i32_364 : BitVec 32 := 0#32
  let v633 : BitVec 1 := Scalar.cmpi .slt v631 c0_i32_364
  let c0_i32_365 : BitVec 32 := 0#32
  let v634 : BitVec 1 := Scalar.cmpi .slt v630 c0_i32_365
  let v635 : BitVec 1 := Scalar.xori v633 v634
  let c0_i32_363 : BitVec 32 := 0#32
  let v632 : BitVec 1 := Scalar.cmpi .ne v631 c0_i32_363
  let v636 : BitVec 1 := Scalar.andi v635 v632
  let v637 : BitVec 32 := Scalar.addi v631 v630
  let v638 : BitVec 32 := Scalar.select v636 v637 v631
  let c4_i32_366 : BitVec 32 := 4#32
  let v639 : BitVec 1 := Scalar.cmpi .slt v638 c4_i32_366
  let c11_i32_367 : BitVec 32 := 11#32
  let v640 : BitVec 32 := Scalar.subi c11_i32_367 v638
  let v641 : BitVec 32 := Scalar.select v639 v638 v640
  let c4_i32_377 : BitVec 32 := 4#32
  let v651 : BitVec 32 := Scalar.muli v641 c4_i32_377
  let v652 : Index := Scalar.indexCast v651
  let c0_379 : Index := 0#32
  let c0_380 : Index := 0#32
  ![0, v652.toNat, 0, 0]
def k0_off10 (d0 : Dev nD) (c1_i32_359 : BitVec 32) : Fin 4 → Nat :=
  let c0_382 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v628 : BitVec 32 := Scalar.addi v5 c1_i32_359
  let c8_i32_360 : BitVec 32 := 8#32
  let c0_i32_361 : BitVec 32 := 0#32
  let v629 : BitVec 1 := Scalar.cmpi .eq c8_i32_360 c0_i32_361
  let c1_i32_362 : BitVec 32 := 1#32
  let v630 : BitVec 32 := Scalar.select v629 c1_i32_362 c8_i32_360
  let v631 : BitVec 32 := Scalar.remsi v628 v630
  let c0_i32_364 : BitVec 32 := 0#32
  let v633 : BitVec 1 := Scalar.cmpi .slt v631 c0_i32_364
  let c0_i32_365 : BitVec 32 := 0#32
  let v634 : BitVec 1 := Scalar.cmpi .slt v630 c0_i32_365
  let v635 : BitVec 1 := Scalar.xori v633 v634
  let c0_i32_363 : BitVec 32 := 0#32
  let v632 : BitVec 1 := Scalar.cmpi .ne v631 c0_i32_363
  let v636 : BitVec 1 := Scalar.andi v635 v632
  let v637 : BitVec 32 := Scalar.addi v631 v630
  let v638 : BitVec 32 := Scalar.select v636 v637 v631
  let c4_i32_366 : BitVec 32 := 4#32
  let v639 : BitVec 1 := Scalar.cmpi .slt v638 c4_i32_366
  let c11_i32_367 : BitVec 32 := 11#32
  let v640 : BitVec 32 := Scalar.subi c11_i32_367 v638
  let v641 : BitVec 32 := Scalar.select v639 v638 v640
  let c4_i32_381 : BitVec 32 := 4#32
  let v655 : BitVec 32 := Scalar.muli v641 c4_i32_381
  let v656 : Index := Scalar.indexCast v655
  let c0_383 : Index := 0#32
  let c0_384 : Index := 0#32
  ![0, v656.toNat, 0, 0]
def k0_off11 (d0 : Dev nD) (c1_i32_359 : BitVec 32) : Fin 4 → Nat :=
  let c1_402 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v628 : BitVec 32 := Scalar.addi v5 c1_i32_359
  let c8_i32_360 : BitVec 32 := 8#32
  let c0_i32_361 : BitVec 32 := 0#32
  let v629 : BitVec 1 := Scalar.cmpi .eq c8_i32_360 c0_i32_361
  let c1_i32_362 : BitVec 32 := 1#32
  let v630 : BitVec 32 := Scalar.select v629 c1_i32_362 c8_i32_360
  let v631 : BitVec 32 := Scalar.remsi v628 v630
  let c0_i32_364 : BitVec 32 := 0#32
  let v633 : BitVec 1 := Scalar.cmpi .slt v631 c0_i32_364
  let c0_i32_365 : BitVec 32 := 0#32
  let v634 : BitVec 1 := Scalar.cmpi .slt v630 c0_i32_365
  let v635 : BitVec 1 := Scalar.xori v633 v634
  let c0_i32_363 : BitVec 32 := 0#32
  let v632 : BitVec 1 := Scalar.cmpi .ne v631 c0_i32_363
  let v636 : BitVec 1 := Scalar.andi v635 v632
  let v637 : BitVec 32 := Scalar.addi v631 v630
  let v638 : BitVec 32 := Scalar.select v636 v637 v631
  let c4_i32_366 : BitVec 32 := 4#32
  let v639 : BitVec 1 := Scalar.cmpi .slt v638 c4_i32_366
  let c11_i32_367 : BitVec 32 := 11#32
  let v640 : BitVec 32 := Scalar.subi c11_i32_367 v638
  let v641 : BitVec 32 := Scalar.select v639 v638 v640
  let c4_i32_401 : BitVec 32 := 4#32
  let v724 : BitVec 32 := Scalar.muli v641 c4_i32_401
  let v725 : Index := Scalar.indexCast v724
  let c0_403 : Index := 0#32
  let c0_404 : Index := 0#32
  ![1, v725.toNat, 0, 0]
def k0_off12 (d0 : Dev nD) (c1_i32_359 : BitVec 32) : Fin 4 → Nat :=
  let c1_406 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v628 : BitVec 32 := Scalar.addi v5 c1_i32_359
  let c8_i32_360 : BitVec 32 := 8#32
  let c0_i32_361 : BitVec 32 := 0#32
  let v629 : BitVec 1 := Scalar.cmpi .eq c8_i32_360 c0_i32_361
  let c1_i32_362 : BitVec 32 := 1#32
  let v630 : BitVec 32 := Scalar.select v629 c1_i32_362 c8_i32_360
  let v631 : BitVec 32 := Scalar.remsi v628 v630
  let c0_i32_364 : BitVec 32 := 0#32
  let v633 : BitVec 1 := Scalar.cmpi .slt v631 c0_i32_364
  let c0_i32_365 : BitVec 32 := 0#32
  let v634 : BitVec 1 := Scalar.cmpi .slt v630 c0_i32_365
  let v635 : BitVec 1 := Scalar.xori v633 v634
  let c0_i32_363 : BitVec 32 := 0#32
  let v632 : BitVec 1 := Scalar.cmpi .ne v631 c0_i32_363
  let v636 : BitVec 1 := Scalar.andi v635 v632
  let v637 : BitVec 32 := Scalar.addi v631 v630
  let v638 : BitVec 32 := Scalar.select v636 v637 v631
  let c4_i32_366 : BitVec 32 := 4#32
  let v639 : BitVec 1 := Scalar.cmpi .slt v638 c4_i32_366
  let c11_i32_367 : BitVec 32 := 11#32
  let v640 : BitVec 32 := Scalar.subi c11_i32_367 v638
  let v641 : BitVec 32 := Scalar.select v639 v638 v640
  let c4_i32_405 : BitVec 32 := 4#32
  let v728 : BitVec 32 := Scalar.muli v641 c4_i32_405
  let v729 : Index := Scalar.indexCast v728
  let c0_407 : Index := 0#32
  let c0_408 : Index := 0#32
  ![1, v729.toNat, 0, 0]
def k0_dev11 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.addi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_512 : BitVec 32 := 1#32
  let v860 : BitVec 32 := Scalar.muli v33 c1_i32_512
  let v861 : BitVec 32 := Scalar.addi c0_i32_513 v860
  v861.toNat
def k0_dev12 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.addi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_522 : BitVec 32 := 1#32
  let v870 : BitVec 32 := Scalar.muli v33 c1_i32_522
  let v871 : BitVec 32 := Scalar.addi c0_i32_523 v870
  v871.toNat
def k0_dev13 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_532 : BitVec 32 := 1#32
  let v880 : BitVec 32 := Scalar.muli v19 c1_i32_532
  let v881 : BitVec 32 := Scalar.addi c0_i32_533 v880
  v881.toNat
def k0_dev14 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_542 : BitVec 32 := 1#32
  let v890 : BitVec 32 := Scalar.muli v19 c1_i32_542
  let v891 : BitVec 32 := Scalar.addi c0_i32_543 v890
  v891.toNat
def k0_dev15 (d0 : Dev nD) : Nat :=
  let c0_i32_774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.addi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_773 : BitVec 32 := 1#32
  let v1308 : BitVec 32 := Scalar.muli v33 c1_i32_773
  let v1309 : BitVec 32 := Scalar.addi c0_i32_774 v1308
  v1309.toNat
def k0_dev16 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_783 : BitVec 32 := 1#32
  let v1318 : BitVec 32 := Scalar.muli v19 c1_i32_783
  let v1319 : BitVec 32 := Scalar.addi c0_i32_784 v1318
  v1319.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x2048 : Shape := ⟨2, ![512, 2048]⟩
abbrev S2x256x32x64 : Shape := ⟨4, ![2, 256, 32, 64]⟩
abbrev S2048x512 : Shape := ⟨2, ![2048, 512]⟩
abbrev S_ : Shape := ⟨0, ![]⟩
abbrev S2x2048x2048 : Shape := ⟨3, ![2, 2048, 2048]⟩
abbrev S2x2048x32x64 : Shape := ⟨4, ![2, 2048, 32, 64]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩
abbrev S2x32x2048x256 : Shape := ⟨4, ![2, 32, 2048, 256]⟩
abbrev S1x1x2048x256 : Shape := ⟨4, ![1, 1, 2048, 256]⟩
abbrev S2x32x2048 : Shape := ⟨3, ![2, 32, 2048]⟩
abbrev S2x32x2048x1 : Shape := ⟨4, ![2, 32, 2048, 1]⟩
abbrev S1x1x2048x1 : Shape := ⟨4, ![1, 1, 2048, 1]⟩
abbrev S2x32x64x2048 : Shape := ⟨4, ![2, 32, 64, 2048]⟩

abbrev nBuf : Space → Nat
  | .hbm => 157
  | .vmem => 0
  | .smem => 0
  | _ => 0

abbrev hbmTy0_0 (i : Nat) : BufTy := match i % 128 with
  | 0 => ⟨S2x2048x512, .f32⟩
  | 1 => ⟨S512x2048, .f32⟩
  | 2 => ⟨S2x256x32x64, .f32⟩
  | 3 => ⟨S2x256x32x64, .f32⟩
  | 4 => ⟨S2048x512, .f32⟩
  | 5 => ⟨S_, .f32⟩
  | 6 => ⟨S512x2048, .f32⟩
  | 7 => ⟨S512x2048, .f32⟩
  | 8 => ⟨S512x2048, .f32⟩
  | 9 => ⟨S_, .f32⟩
  | 10 => ⟨S_, .f32⟩
  | 11 => ⟨S_, .f32⟩
  | 12 => ⟨S512x2048, .f32⟩
  | 13 => ⟨S512x2048, .f32⟩
  | 14 => ⟨S_, .f32⟩
  | 15 => ⟨S512x2048, .f32⟩
  | 16 => ⟨S512x2048, .f32⟩
  | 17 => ⟨S512x2048, .i32⟩
  | 18 => ⟨S512x2048, .f32⟩
  | 19 => ⟨S_, .f32⟩
  | 20 => ⟨S512x2048, .f32⟩
  | 21 => ⟨S512x2048, .f32⟩
  | 22 => ⟨S_, .f32⟩
  | 23 => ⟨S2048x512, .f32⟩
  | 24 => ⟨S2048x512, .f32⟩
  | 25 => ⟨S2048x512, .f32⟩
  | 26 => ⟨S_, .f32⟩
  | 27 => ⟨S_, .f32⟩
  | 28 => ⟨S_, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S2048x512, .i32⟩
  | 35 => ⟨S2048x512, .f32⟩
  | 36 => ⟨S_, .f32⟩
  | 37 => ⟨S2048x512, .f32⟩
  | 38 => ⟨S2048x512, .f32⟩
  | 39 => ⟨S2x2048x2048, .f32⟩
  | 40 => ⟨S2x2048x32x64, .f32⟩
  | 41 => ⟨S2048, .i32⟩
  | 42 => ⟨S_, .i32⟩
  | 43 => ⟨S_, .i32⟩
  | 44 => ⟨S2048, .i32⟩
  | 45 => ⟨S2048, .i32⟩
  | 46 => ⟨S2048, .i32⟩
  | 47 => ⟨S_, .i32⟩
  | 48 => ⟨S2048, .i32⟩
  | 49 => ⟨S2048, .i1⟩
  | 50 => ⟨S2048, .i32⟩
  | 51 => ⟨S2048, .i32⟩
  | 52 => ⟨S_, .i32⟩
  | 53 => ⟨S2048, .i32⟩
  | 54 => ⟨S2048, .i1⟩
  | 55 => ⟨S2048, .i1⟩
  | 56 => ⟨S_, .i32⟩
  | 57 => ⟨S2048, .i32⟩
  | 58 => ⟨S2048, .i32⟩
  | 59 => ⟨S2048, .i32⟩
  | 60 => ⟨S2048x1, .i32⟩
  | 61 => ⟨S256, .i32⟩
  | 62 => ⟨S_, .i32⟩
  | 63 => ⟨S_, .i32⟩
  | 64 => ⟨S256, .i32⟩
  | 65 => ⟨S256, .i32⟩
  | 66 => ⟨S256, .i32⟩
  | 67 => ⟨S_, .i32⟩
  | 68 => ⟨S256, .i32⟩
  | 69 => ⟨S256, .i1⟩
  | 70 => ⟨S256, .i32⟩
  | 71 => ⟨S256, .i32⟩
  | 72 => ⟨S_, .i32⟩
  | 73 => ⟨S256, .i32⟩
  | 74 => ⟨S256, .i1⟩
  | 75 => ⟨S256, .i1⟩
  | 76 => ⟨S_, .i32⟩
  | 77 => ⟨S256, .i32⟩
  | 78 => ⟨S256, .i32⟩
  | 79 => ⟨S256, .i32⟩
  | 80 => ⟨S1x256, .i32⟩
  | 81 => ⟨S2048x256, .i32⟩
  | 82 => ⟨S2048x256, .i32⟩
  | 83 => ⟨S2048x256, .i1⟩
  | 84 => ⟨S_, .i32⟩
  | 85 => ⟨S1x256, .i32⟩
  | 86 => ⟨S1x256, .i1⟩
  | 87 => ⟨S2048x256, .i1⟩
  | 88 => ⟨S2048x256, .i1⟩
  | 89 => ⟨S2048x256, .i32⟩
  | 90 => ⟨S2048x256, .i32⟩
  | 91 => ⟨S2048x256, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S2048x256, .i32⟩
  | 99 => ⟨S2048x256, .i32⟩
  | 100 => ⟨S_, .i32⟩
  | 101 => ⟨S2048x256, .i32⟩
  | 102 => ⟨S2048x256, .i1⟩
  | 103 => ⟨S_, .i32⟩
  | 104 => ⟨S2048x256, .i32⟩
  | 105 => ⟨S2048x256, .i1⟩
  | 106 => ⟨S_, .i32⟩
  | 107 => ⟨S_, .i1⟩
  | 108 => ⟨S2048x256, .i1⟩
  | 109 => ⟨S2048x256, .i1⟩
  | 110 => ⟨S2048x256, .i1⟩
  | 111 => ⟨S2048x256, .i32⟩
  | 112 => ⟨S2048x256, .i32⟩
  | 113 => ⟨S2048x256, .i32⟩
  | 114 => ⟨S_, .i32⟩
  | 115 => ⟨S2048x256, .i32⟩
  | 116 => ⟨S2048x256, .i1⟩
  | 117 => ⟨S2048x256, .i1⟩
  | 118 => ⟨S2x32x2048x256, .f32⟩
  | 119 => ⟨S_, .f32⟩
  | 120 => ⟨S2x32x2048x256, .f32⟩
  | 121 => ⟨S2x32x2048x256, .f32⟩
  | 122 => ⟨S1x1x2048x256, .i1⟩
  | 123 => ⟨S_, .f32⟩
  | 124 => ⟨S_, .f32⟩
  | 125 => ⟨S2x32x2048x256, .i1⟩
  | 126 => ⟨S2x32x2048x256, .f32⟩
  | 127 => ⟨S2x32x2048x256, .f32⟩
  | _ => ⟨S2x2048x512, .f32⟩

abbrev hbmTy0_1 (i : Nat) : BufTy := match i % 128 with
  | 0 => ⟨S_, .f32⟩
  | 1 => ⟨S2x32x2048, .f32⟩
  | 2 => ⟨S2x32x2048x1, .f32⟩
  | 3 => ⟨S2x32x2048x256, .f32⟩
  | 4 => ⟨S2x32x2048x256, .f32⟩
  | 5 => ⟨S2x32x2048x256, .f32⟩
  | 6 => ⟨S_, .i1⟩
  | 7 => ⟨S2048, .i1⟩
  | 8 => ⟨S1x1x2048x1, .i1⟩
  | 9 => ⟨S_, .f32⟩
  | 10 => ⟨S2x32x2048, .f32⟩
  | 11 => ⟨S2x32x2048x1, .f32⟩
  | 12 => ⟨S_, .f32⟩
  | 13 => ⟨S_, .f32⟩
  | 14 => ⟨S2x32x2048x1, .i1⟩
  | 15 => ⟨S2x32x2048x1, .f32⟩
  | 16 => ⟨S2x32x2048x1, .f32⟩
  | 17 => ⟨S2x32x2048x256, .f32⟩
  | 18 => ⟨S2x32x2048x256, .f32⟩
  | 19 => ⟨S1x1x2048x1, .i1⟩
  | 20 => ⟨S_, .f32⟩
  | 21 => ⟨S_, .f32⟩
  | 22 => ⟨S2x32x2048x256, .i1⟩
  | 23 => ⟨S2x32x2048x256, .f32⟩
  | 24 => ⟨S2x32x2048x256, .f32⟩
  | 25 => ⟨S2x32x64x2048, .f32⟩
  | 26 => ⟨S2x2048x32x64, .f32⟩
  | 27 => ⟨S2x2048x2048, .f32⟩
  | 28 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_cst_5 : Ref sig .tc := ⟨.hbm, 27, rfl⟩
abbrev main_call3_v0 : Ref sig .tc := ⟨.hbm, 28, rfl⟩
abbrev main_call3_v1 : Ref sig .tc := ⟨.hbm, 29, rfl⟩
abbrev main_call3_v2 : Ref sig .tc := ⟨.hbm, 30, rfl⟩
abbrev main_call3_v3 : Ref sig .tc := ⟨.hbm, 31, rfl⟩
abbrev main_call3_v4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_v8 : Ref sig .tc := ⟨.hbm, 51, rfl⟩
abbrev main_call4_c : Ref sig .tc := ⟨.hbm, 52, rfl⟩
abbrev main_call4_v9 : Ref sig .tc := ⟨.hbm, 53, rfl⟩
abbrev main_call4_v10 : Ref sig .tc := ⟨.hbm, 54, rfl⟩
abbrev main_call4_v11 : Ref sig .tc := ⟨.hbm, 55, rfl⟩
abbrev main_call4_c_0 : Ref sig .tc := ⟨.hbm, 56, rfl⟩
abbrev main_call4_v12 : Ref sig .tc := ⟨.hbm, 57, rfl⟩
abbrev main_call4_v13 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_7 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_v5 : Ref sig .tc := ⟨.hbm, 68, rfl⟩
abbrev main_call5_v6 : Ref sig .tc := ⟨.hbm, 69, rfl⟩
abbrev main_call5_v7 : Ref sig .tc := ⟨.hbm, 70, rfl⟩
abbrev main_call5_v8 : Ref sig .tc := ⟨.hbm, 71, rfl⟩
abbrev main_call5_c : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_c_0 : Ref sig .tc := ⟨.hbm, 76, rfl⟩
abbrev main_call5_v12 : Ref sig .tc := ⟨.hbm, 77, rfl⟩
abbrev main_call5_v13 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_8 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_c_9 : Ref sig .tc := ⟨.hbm, 92, rfl⟩
abbrev main_call6_v0 : Ref sig .tc := ⟨.hbm, 93, rfl⟩
abbrev main_call6_c : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_c_1 : Ref sig .tc := ⟨.hbm, 100, rfl⟩
abbrev main_call6_v5 : Ref sig .tc := ⟨.hbm, 101, rfl⟩
abbrev main_call6_v6 : Ref sig .tc := ⟨.hbm, 102, rfl⟩
abbrev main_call6_c_2 : Ref sig .tc := ⟨.hbm, 103, rfl⟩
abbrev main_call6_v7 : Ref sig .tc := ⟨.hbm, 104, rfl⟩
abbrev main_call6_v8 : Ref sig .tc := ⟨.hbm, 105, rfl⟩
abbrev main_call6_c_3 : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_v12 : Ref sig .tc := ⟨.hbm, 110, rfl⟩
abbrev main_call6_v13 : Ref sig .tc := ⟨.hbm, 111, rfl⟩
abbrev main_call6_v14 : Ref sig .tc := ⟨.hbm, 112, rfl⟩
abbrev main_v34 : Ref sig .tc := ⟨.hbm, 113, rfl⟩
abbrev main_c_10 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_cst_11 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_cst_12 : Ref sig .tc := ⟨.hbm, 123, rfl⟩
abbrev main_call7_v0 : Ref sig .tc := ⟨.hbm, 124, rfl⟩
abbrev main_call7_v1 : Ref sig .tc := ⟨.hbm, 125, rfl⟩
abbrev main_call7_v2 : Ref sig .tc := ⟨.hbm, 126, rfl⟩
abbrev main_v42 : Ref sig .tc := ⟨.hbm, 127, rfl⟩
abbrev main_cst_13 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_c_14 : Ref sig .tc := ⟨.hbm, 134, rfl⟩
abbrev main_v48 : Ref sig .tc := ⟨.hbm, 135, rfl⟩
abbrev main_v49 : Ref sig .tc := ⟨.hbm, 136, rfl⟩
abbrev main_cst_15 : Ref sig .tc := ⟨.hbm, 137, rfl⟩
abbrev main_v50 : Ref sig .tc := ⟨.hbm, 138, rfl⟩
abbrev main_v51 : Ref sig .tc := ⟨.hbm, 139, rfl⟩
abbrev main_cst_16 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_cst_17 : Ref sig .tc := ⟨.hbm, 148, rfl⟩
abbrev main_call9_v0 : Ref sig .tc := ⟨.hbm, 149, rfl⟩
abbrev main_call9_v1 : Ref sig .tc := ⟨.hbm, 150, rfl⟩
abbrev main_call9_v2 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩

abbrev nD : Nat := 1
abbrev τ : Topo := Topo.v7x

variable {F : FTy → Type} [FloatOps F]
-- ==== Proof.Shape.lean ====
/-
  The kernel's body in a shorter spelling. The printed body is one flat sequence of statements; here it is written
  with one definition for each thing the kernel does again and again: filling the first slots of the four rings,
  starting the transfers of a hop, waiting for them, and adding the contribution of one slot to the result. The
  theorem at the end says that the printed body is this program.
-/
module

public import proofs.«01_k».proof.Proof.Gen.KernelIdeal
public import proofs.«01_k».proof.Proof.Gen.KernelIdeal.Skeleton

@[expose] public section

noncomputable section

namespace Cert.KernelIdeal.Own

open Cert.KernelIdeal Cert.KernelIdeal.Gen
open Idealize.ShloMosaic Idealize.SL.Sem

variable {F : FTy → Type} [FloatOps F]

/-! ### The four rings of slots -/

/-- The four flows of blocks: query weights going right, output weights going right, output weights going left,
    query weights going left. -/
inductive Ring | rq | ro | lo | lq
  deriving DecidableEq

/-- The number of slots of a flow's scratch buffer, and the shape of one slot. -/
abbrev Ring.cnt : Ring → ℕ | .rq => 5 | .ro => 4 | .lo => 5 | .lq => 4
abbrev Ring.rows : Ring → ℕ | .rq => 512 | .ro => 256 | .lo => 256 | .lq => 512
abbrev Ring.cols : Ring → ℕ | .rq => 256 | .ro => 512 | .lo => 512 | .lq => 256

/-- The shapes of a buffer of `n` slots, of a slot as a window of it, and of a slot's contents. -/
abbrev ringS (n a b : ℕ) : Shape := ⟨3, ![n, a, b]⟩
abbrev slotS1 (a b : ℕ) : Shape := ⟨3, ![1, a, b]⟩
abbrev slotS (a b : ℕ) : Shape := ⟨2, ![a, b]⟩

/-- A flow's scratch buffer. -/
abbrev ringM : (r : Ring) → Memref sig .tc .vmem (ringS r.cnt r.rows r.cols) .i8
  | .rq => Memref.whole cc0_scratch1
  | .ro => Memref.whole cc0_scratch2
  | .lo => Memref.whole cc0_scratch4
  | .lq => Memref.whole cc0_scratch3

theorem slot_inb {n a b : ℕ} (k : ℕ) (hk : k < n) : ∀ d, (![k, 0, 0] : Fin 3 → ℕ) d + (slotS1 a b).size d ≤ (ringS n a b).size d := by
  intro d
  fin_cases d
  · exact hk
  · exact (Nat.zero_add _).le
  · exact (Nat.zero_add _).le

/-- Slot `k` of a buffer of `n` slots, as a rectangle. -/
abbrev slotRect {n a b : ℕ} (k : ℕ) (hk : k < n) : Rect (ringS n a b) := Rect.unit (s := ringS n a b) ![k, 0, 0] (slotS1 a b).size (slot_inb k hk)

theorem slot_words {n a b : ℕ} (k : ℕ) (hk : k < n) : (slotRect (a := a) (b := b) k hk).WholeWords (EltTy.packing .i8) :=
  Or.inr ⟨by show 2 ≤ 3; decide, rfl, rfl, rfl⟩

/-- Slot `k` of a buffer of `n` slots, as the memref a transfer names. -/
abbrev slotM {n a b : ℕ} (m : Memref sig .tc .vmem (ringS n a b) .i8) (hs : (slotS1 a b).Squeezes (slotS a b)) (k : ℕ) (hk : k < n) :
    Memref sig .tc .vmem (slotS a b) .i8 :=
  (m.slice (slotRect k hk) (fun _ => rfl)).squeeze (slotS a b) hs

theorem ring_squeezes (r : Ring) : (slotS1 r.rows r.cols).Squeezes (slotS r.rows r.cols) := by
  cases r <;> decide

theorem ringM_whole (r : Ring) : (ringM r).IsWhole := by
  cases r <;> exact Memref.isWhole_whole _

/-- Slot `k` of a flow. -/
abbrev slot (r : Ring) (k : ℕ) (hk : k < r.cnt) : Memref sig .tc .vmem (slotS r.rows r.cols) .i8 := slotM (ringM r) (ring_squeezes r) k hk

theorem slot_wordExact (r : Ring) (k : ℕ) (hk : k < r.cnt) : (slot r k hk).view.WordExact :=
  ((ringM_whole r).wordExact_slice rfl _ (slot_words k hk)).reshape _ _

/-! ### The fourteen hops -/

/-- The hops in the order the kernel starts them: the flow and the slot sent. -/
abbrev hopR : Fin 14 → Ring
  | 0 => .rq | 1 => .ro | 2 => .lo | 3 => .lq | 4 => .rq | 5 => .ro | 6 => .lo | 7 => .lq
  | 8 => .rq | 9 => .ro | 10 => .lo | 11 => .lq | 12 => .rq | 13 => .lo
abbrev hopK : Fin 14 → ℕ
  | 0 => 0 | 1 => 0 | 2 => 0 | 3 => 0 | 4 => 1 | 5 => 1 | 6 => 1 | 7 => 1
  | 8 => 2 | 9 => 2 | 10 => 2 | 11 => 2 | 12 => 3 | 13 => 3

theorem hop_lt (h : Fin 14) : hopK h + 1 < (hopR h).cnt := by revert h; decide

/-- The slot a hop sends, and the slot of the peer it fills. -/
abbrev hopSrc (h : Fin 14) : Memref sig .tc .vmem (slotS (hopR h).rows (hopR h).cols) .i8 := slot (hopR h) (hopK h) (Nat.lt_of_succ_lt (hop_lt h))
abbrev hopDst (h : Fin 14) : Memref sig .tc .vmem (slotS (hopR h).rows (hopR h).cols) .i8 := slot (hopR h) (hopK h + 1) (hop_lt h)

/-- The semaphore `k` of an array of four or of three. -/
abbrev sem4 (A : DmaSems sig S4) (k : ℕ) (hk : ∀ a, (![k] : Fin 1 → ℕ) a + S1.size a ≤ S4.size a) : DmaSem sig :=
  ((A.slice (Rect.unit (s := S4) ![k] S1.size hk)).squeeze S_ squeezes_S1_S_).sem
abbrev sem3 (A : DmaSems sig S3) (k : ℕ) (hk : ∀ a, (![k] : Fin 1 → ℕ) a + S1.size a ≤ S3.size a) : DmaSem sig :=
  ((A.slice (Rect.unit (s := S3) ![k] S1.size hk)).squeeze S_ squeezes_S1_S_).sem

/-- The semaphores of a hop: the sender's own, and the receiver's. -/
def sndSem : Fin 14 → DmaSem sig
  | 0 => sem4 cc0_scratch5 0 inb_S4_S1_0 | 1 => sem3 cc0_scratch7 0 inb_S3_S1_0
  | 2 => sem4 cc0_scratch11 0 inb_S4_S1_0 | 3 => sem3 cc0_scratch9 0 inb_S3_S1_0
  | 4 => sem4 cc0_scratch5 1 inb_S4_S1_1 | 5 => sem3 cc0_scratch7 1 inb_S3_S1_1
  | 6 => sem4 cc0_scratch11 1 inb_S4_S1_1 | 7 => sem3 cc0_scratch9 1 inb_S3_S1_1
  | 8 => sem4 cc0_scratch5 2 inb_S4_S1_2 | 9 => sem3 cc0_scratch7 2 inb_S3_S1_2
  | 10 => sem4 cc0_scratch11 2 inb_S4_S1_2 | 11 => sem3 cc0_scratch9 2 inb_S3_S1_2
  | 12 => sem4 cc0_scratch5 3 inb_S4_S1_3 | 13 => sem4 cc0_scratch11 3 inb_S4_S1_3
def rcvSem : Fin 14 → DmaSem sig
  | 0 => sem4 cc0_scratch6 0 inb_S4_S1_0 | 1 => sem3 cc0_scratch8 0 inb_S3_S1_0
  | 2 => sem4 cc0_scratch12 0 inb_S4_S1_0 | 3 => sem3 cc0_scratch10 0 inb_S3_S1_0
  | 4 => sem4 cc0_scratch6 1 inb_S4_S1_1 | 5 => sem3 cc0_scratch8 1 inb_S3_S1_1
  | 6 => sem4 cc0_scratch12 1 inb_S4_S1_1 | 7 => sem3 cc0_scratch10 1 inb_S3_S1_1
  | 8 => sem4 cc0_scratch6 2 inb_S4_S1_2 | 9 => sem3 cc0_scratch8 2 inb_S3_S1_2
  | 10 => sem4 cc0_scratch12 2 inb_S4_S1_2 | 11 => sem3 cc0_scratch10 2 inb_S3_S1_2
  | 12 => sem4 cc0_scratch6 3 inb_S4_S1_3 | 13 => sem4 cc0_scratch12 3 inb_S4_S1_3

/-- The device a hop sends to, as the kernel computes it. -/
def hopDev (h : Fin 14) (c : Dev nD) : Dev nD :=
  match h with
  | 0 => ⟨k0_dev3 c, k0_dev3_lt c⟩ | 1 => ⟨k0_dev4 c, k0_dev4_lt c⟩ | 2 => ⟨k0_dev5 c, k0_dev5_lt c⟩ | 3 => ⟨k0_dev6 c, k0_dev6_lt c⟩
  | 4 => ⟨k0_dev7 c, k0_dev7_lt c⟩ | 5 => ⟨k0_dev8 c, k0_dev8_lt c⟩ | 6 => ⟨k0_dev9 c, k0_dev9_lt c⟩ | 7 => ⟨k0_dev10 c, k0_dev10_lt c⟩
  | 8 => ⟨k0_dev11 c, k0_dev11_lt c⟩ | 9 => ⟨k0_dev12 c, k0_dev12_lt c⟩ | 10 => ⟨k0_dev13 c, k0_dev13_lt c⟩ | 11 => ⟨k0_dev14 c, k0_dev14_lt c⟩
  | 12 => ⟨k0_dev15 c, k0_dev15_lt c⟩ | 13 => ⟨k0_dev16 c, k0_dev16_lt c⟩

variable (F) in
/-- The programs of a core's kernel body. -/
abbrev P (α : Type) := Prog (TpuEff nD τ sig (Elt F) Λ₀ .tc) α

/-- Start a hop; wait for what it sends; wait for what arrives. -/
def start (c : Dev nD) (h : Fin 14) : P F PUnit :=
  Prog.lift (.enqueueDma (hopSrc h) (.remote (Dev.tc (hopDev h c)) (hopDst h) (.dma (sndSem h))) (.dma (rcvSem h))
    (slot_wordExact _ _ _) (slot_wordExact _ _ _) ⟨⟨rfl, Or.inl rfl⟩, trivial⟩)
def waitSnd (h : Fin 14) : P F PUnit :=
  Prog.lift (.waitDma2 (sndSem h) (hopDst h) (hopSrc h) (slot_wordExact _ _ _) (slot_wordExact _ _ _))
def waitRcv (h : Fin 14) : P F PUnit :=
  Prog.lift (.waitDma2 (rcvSem h) (hopSrc h) (hopDst h) (slot_wordExact _ _ _) (slot_wordExact _ _ _))

/-- The starts, and the waits, of a list of hops. -/
def starts (c : Dev nD) : List (Fin 14) → P F PUnit
  | [] => pure ⟨⟩
  | h :: l => do start c h; starts c l
def waits : List (Fin 14) → P F PUnit
  | [] => pure ⟨⟩
  | h :: l => do waitSnd h; waitRcv h; waits l

/-! ### The windows' buffers -/

abbrev xM : Memref sig .tc .vmem S2x256x512 .f32 := Memref.whole cc0_stg0_0
abbrev wqM : Memref sig .tc .vmem S512x256 .f32 := Memref.whole cc0_stg1_0
abbrev kM : Memref sig .tc .vmem S2x32x64x256 .bf16 := Memref.whole cc0_stg2_0
abbrev vM : Memref sig .tc .vmem S2x32x256x64 .bf16 := Memref.whole cc0_stg3_0
abbrev woM : Memref sig .tc .vmem S256x512 .f32 := Memref.whole cc0_stg4_0
abbrev outM : Memref sig .tc .vmem S2x256x512 .f32 := Memref.whole cc0_stg5_0
abbrev xbM : Memref sig .tc .vmem S512x512 .bf16 := Memref.whole cc0_scratch0

/-! ### One contribution -/

/-- Attention of one head with the mask: the unnormalised weights over their sum, applied to the values. -/
def head (mask : IVec S256x256 1) (qh : FVec F S256x64 .bf16) (kh : FVec F S1x64x256 .bf16) (vh : FVec F S1x256x64 .bf16) : FVec F S256x64 .bf16 :=
  have s : FVec F S256x256 .f32 := matmul dot_S256x64_S64x256_S256x256_1_0_0_1_n_n none qh (shapeCast S64x256 kh shapeCasts_S1x64x256_S64x256)
    (constant S256x256 .f32 0x00000000#32)
  have w : FVec F S256x256 .f32 := select mask (exp s) (broadcast S256x256 (Scalar.ofBits .f32 0x00000000#32))
  have n : FVec F S256 .f32 := multiReduction .add [1] S256 w 0x00000000#32 reduces_S256x256_S256 (.inl rfl) rfl
  have ctx : FVec F S256x64 .f32 := matmul dot_S256x256_S256x64_S256x64_1_0_0_1_n_n none (truncf .bf16 w bitsLt_bf16_f32)
    (shapeCast S256x64 vh shapeCasts_S1x256x64_S256x64) (constant S256x64 .f32 0x00000000#32)
  truncf .bf16 (divf ctx (broadcastTo S256x64 (shapeCast S256x1 n shapeCasts_S256_S256x1) broadcasts_S256x1_S256x64)) bitsLt_bf16_f32

/-- Four heads side by side, from their queries. -/
def heads (mask : IVec S256x256 1) (q0 q1 q2 q3 : FVec F S256x64 .bf16) (k : Vec F S1x4x64x256 .bf16) (v : Vec F S1x4x256x64 .bf16) : FVec F S256x256 .bf16 :=
  have kk : FVec F S4x64x256 .bf16 := shapeCast S4x64x256 k shapeCasts_S1x4x64x256_S4x64x256
  have vv : FVec F S4x256x64 .bf16 := shapeCast S4x256x64 v shapeCasts_S1x4x256x64_S4x256x64
  concatenate S256x256 1
    [⟨S256x64, head mask q0 (extractStridedSlice S1x64x256 ![0, 0, 0] kk slices_S4x64x256_o0_0_0_S1x64x256) (extractStridedSlice S1x256x64 ![0, 0, 0] vv slices_S4x256x64_o0_0_0_S1x256x64)⟩,
     ⟨S256x64, head mask q1 (extractStridedSlice S1x64x256 ![1, 0, 0] kk slices_S4x64x256_o1_0_0_S1x64x256) (extractStridedSlice S1x256x64 ![1, 0, 0] vv slices_S4x256x64_o1_0_0_S1x256x64)⟩,
     ⟨S256x64, head mask q2 (extractStridedSlice S1x64x256 ![2, 0, 0] kk slices_S4x64x256_o2_0_0_S1x64x256) (extractStridedSlice S1x256x64 ![2, 0, 0] vv slices_S4x256x64_o2_0_0_S1x256x64)⟩,
     ⟨S256x64, head mask q3 (extractStridedSlice S1x64x256 ![3, 0, 0] kk slices_S4x64x256_o3_0_0_S1x64x256) (extractStridedSlice S1x256x64 ![3, 0, 0] vv slices_S4x256x64_o3_0_0_S1x256x64)⟩]
    concatenates_S256x64_S256x64_S256x64_S256x64_S256x256_d1

/-- The contribution of one device's weight blocks `q` and `o` to the result: queries, attention of its four heads
    in both batches, output projection. -/
def contrib (mask : IVec S256x256 1) (xb : Vec F S512x512 .bf16) (q : Vec F S1x512x256 .i8) (o : Vec F S1x256x512 .i8)
    (k0 : Vec F S1x4x64x256 .bf16) (v0 : Vec F S1x4x256x64 .bf16) (k1 : Vec F S1x4x64x256 .bf16) (v1 : Vec F S1x4x256x64 .bf16) : FVec F S2x256x512 .f32 :=
  have wq : FVec F S512x256 .bf16 := sitofp .bf16 (shapeCast S512x256 (q : IVec S1x512x256 8) shapeCasts_S1x512x256_S512x256 : IVec S512x256 8)
  have wo : FVec F S256x512 .bf16 := sitofp .bf16 (shapeCast S256x512 (o : IVec S1x256x512 8) shapeCasts_S1x256x512_S256x512 : IVec S256x512 8)
  have qq : FVec F S512x256 .bf16 := truncf .bf16 (matmul (φ₁ := .bf16) (φ₂ := .bf16) dot_S512x512_S512x256_S512x256_1_0_0_1_n_n none xb wq (constant S512x256 .f32 0x00000000#32)) bitsLt_bf16_f32
  have c0 : FVec F S256x256 .bf16 := heads mask (extractStridedSlice S256x64 ![0, 0] qq slices_S512x256_o0_0_S256x64) (extractStridedSlice S256x64 ![0, 64] qq slices_S512x256_o0_64_S256x64)
    (extractStridedSlice S256x64 ![0, 128] qq slices_S512x256_o0_128_S256x64) (extractStridedSlice S256x64 ![0, 192] qq slices_S512x256_o0_192_S256x64) k0 v0
  have c1 : FVec F S256x256 .bf16 := heads mask (extractStridedSlice S256x64 ![256, 0] qq slices_S512x256_o256_0_S256x64) (extractStridedSlice S256x64 ![256, 64] qq slices_S512x256_o256_64_S256x64)
    (extractStridedSlice S256x64 ![256, 128] qq slices_S512x256_o256_128_S256x64) (extractStridedSlice S256x64 ![256, 192] qq slices_S512x256_o256_192_S256x64) k1 v1
  have ctx : FVec F S512x256 .bf16 := concatenate S512x256 0 [⟨S256x256, c0⟩, ⟨S256x256, c1⟩] concatenates_S256x256_S256x256_S512x256_d0
  shapeCast S2x256x512 (matmul dot_S512x256_S256x512_S512x512_1_0_0_1_n_n none ctx wo (constant S512x512 .f32 0x00000000#32)) shapeCasts_S512x512_S2x256x512

/-- Where a contribution reads the keys and the values: the window of the origin's heads, in either batch. -/
structure Offs where
  k0 : Fin 4 → ℕ
  v0 : Fin 4 → ℕ
  k1 : Fin 4 → ℕ
  v1 : Fin 4 → ℕ
  hk0 : ∀ a, k0 a + S1x4x64x256.size a ≤ S2x32x64x256.size a
  hv0 : ∀ a, v0 a + S1x4x256x64.size a ≤ S2x32x256x64.size a
  hk1 : ∀ a, k1 a + S1x4x64x256.size a ≤ S2x32x64x256.size a
  hv1 : ∀ a, v1 a + S1x4x256x64.size a ≤ S2x32x256x64.size a

abbrev kRect (o : Fin 4 → ℕ) (h : ∀ a, o a + S1x4x64x256.size a ≤ S2x32x64x256.size a) : Rect S2x32x64x256 := Rect.unit (s := S2x32x64x256) o S1x4x64x256.size h
abbrev vRect (o : Fin 4 → ℕ) (h : ∀ a, o a + S1x4x256x64.size a ≤ S2x32x256x64.size a) : Rect S2x32x256x64 := Rect.unit (s := S2x32x256x64) o S1x4x256x64.size h

abbrev outRect : Rect S2x256x512 := Rect.unit (s := S2x256x512) ![0, 0, 0] S2x256x512.size inb_S2x256x512_S2x256x512_0_0_0
abbrev xbRect : Rect S512x512 := Rect.unit (s := S512x512) ![0, 0] S512x512.size inb_S512x512_S512x512_0_0

/-- Load the operands of a contribution and compute it. -/
def contribOf {n n' : ℕ} (mask : IVec S256x256 1) (mq : Memref sig .tc .vmem (ringS n 512 256) .i8) (mo : Memref sig .tc .vmem (ringS n' 256 512) .i8)
    (k : ℕ) (hk : k < n) (hk' : k < n') (p : Offs) : P F (FVec F S2x256x512 .f32) := do
  let q : Vec F S1x512x256 .i8 ← Prog.lift (.load mq (slotRect (a := 512) (b := 256) k hk).toLoadRect (View.loadsAt_vmem h_S1x512x256))
  let o : Vec F S1x256x512 .i8 ← Prog.lift (.load mo (slotRect (a := 256) (b := 512) k hk').toLoadRect (View.loadsAt_vmem h_S1x256x512))
  let xb : Vec F S512x512 .bf16 ← Prog.lift (.load xbM xbRect.toLoadRect (View.loadsAt_vmem h_S512x512))
  let k0 : Vec F S1x4x64x256 .bf16 ← Prog.lift (.load kM (kRect p.k0 p.hk0).toLoadRect (View.loadsAt_vmem h_S1x4x64x256))
  let v0 : Vec F S1x4x256x64 .bf16 ← Prog.lift (.load vM (vRect p.v0 p.hv0).toLoadRect (View.loadsAt_vmem h_S1x4x256x64))
  let k1 : Vec F S1x4x64x256 .bf16 ← Prog.lift (.load kM (kRect p.k1 p.hk1).toLoadRect (View.loadsAt_vmem h_S1x4x64x256))
  let v1 : Vec F S1x4x256x64 .bf16 ← Prog.lift (.load vM (vRect p.v1 p.hv1).toLoadRect (View.loadsAt_vmem h_S1x4x256x64))
  pure (contrib mask xb q o k0 v0 k1 v1)

/-- Store the first contribution; add a later one to what is there. -/
def putFirst (y : FVec F S2x256x512 .f32) : P F PUnit := do
  let _ : Vec F S2x256x512 .f32 ← Prog.lift (.load outM outRect.toLoadRect (View.loadsAt_vmem h_S2x256x512))
  Prog.lift (.store outM outRect y Finset.univ (View.stores_vmem_bits_univ h_S2x256x512 rfl) (.inl rfl))
def putNext (y : FVec F S2x256x512 .f32) : P F PUnit := do
  let a : Vec F S2x256x512 .f32 ← Prog.lift (.load outM outRect.toLoadRect (View.loadsAt_vmem h_S2x256x512))
  let _ : Vec F S2x256x512 .f32 ← Prog.lift (.load outM outRect.toLoadRect (View.loadsAt_vmem h_S2x256x512))
  Prog.lift (.store outM outRect (addf (shapeCast S2x256x512 a shapeCasts_S2x256x512_S2x256x512 : FVec F S2x256x512 .f32) y) Finset.univ
    (View.stores_vmem_bits_univ h_S2x256x512 rfl) (.inl rfl))

/-- The windows of keys and values: the core's own, those that came from the left, those that came from the right. -/
def offOwn (c : Dev nD) : Offs := ⟨k0_off1 c, k0_off2 c, k0_off3 c, k0_off4 c, k0_off1_inb c, k0_off2_inb c, k0_off3_inb c, k0_off4_inb c⟩
def offL (c : Dev nD) (j : Fin 4) : Offs :=
  ⟨k0_off5 c (BitVec.ofNat 32 (1 + j.val)), k0_off6 c (BitVec.ofNat 32 (1 + j.val)), k0_off7 c (BitVec.ofNat 32 (1 + j.val)), k0_off8 c (BitVec.ofNat 32 (1 + j.val)),
   k0_off5_inb c j, k0_off6_inb c j, k0_off7_inb c j, k0_off8_inb c j⟩
def offR (c : Dev nD) (j : Fin 3) : Offs :=
  ⟨k0_off9 c (BitVec.ofNat 32 (1 + j.val)), k0_off10 c (BitVec.ofNat 32 (1 + j.val)), k0_off11 c (BitVec.ofNat 32 (1 + j.val)), k0_off12 c (BitVec.ofNat 32 (1 + j.val)),
   k0_off9_inb c j, k0_off10_inb c j, k0_off11_inb c j, k0_off12_inb c j⟩

/-- The block mask of a device. -/
def maskOf (c : Dev nD) : IVec S256x256 1 :=
  have v81 : IVec S256x256 32 := iota .tc S256x256 32 [1] iota_S256x256_d1_w32
  have v82 : BitVec 32 := Scalar.muli (Scalar.remsi (Scalar.divsi (Dev.word c) 1#32) 8#32) 4#32
  k0_pay16 (k0_pay13 v81 v82 k0_pay8 k0_pay9 k0_pay10) (Scalar.select (Scalar.cmpi .eq (3#32 : BitVec 32) 0#32) 1#32 3#32)
    (k0_pay14 v81 v82 k0_pay8 k0_pay9 k0_pay10) (k0_pay15 v81 v82 k0_pay8 k0_pay9 k0_pay10)

/-! ### The body -/

/-- The runtime barrier's semaphore. -/
abbrev barSem : Sem sig := (SemArray.scalar (sig.barrier 0 rfl) : Sems sig S_).sem

/-- Meet both neighbours at the barrier. -/
def meet (c : Dev nD) : P F PUnit := do
  semSignalWord (⟨k0_dev1 c, k0_dev1_lt c⟩ : Dev nD) barSem 1#32
  semSignalWord (⟨k0_dev2 c, k0_dev2_lt c⟩ : Dev nD) barSem 1#32
  semWaitWord barSem 2#32

/-- Put a quantised block into slot 0. -/
def fillQ {n : ℕ} (m : Memref sig .tc .vmem (ringS n 512 256) .i8) (h0 : 0 < n) (hx : (m.access (slotRect 0 h0)).Stores Finset.univ) (w : IVec S512x256 8) : P F PUnit := do
  let _ : Vec F S1x512x256 .i8 ← Prog.lift (.load m (slotRect (a := 512) (b := 256) 0 h0).toLoadRect (View.loadsAt_vmem h_S1x512x256))
  Prog.lift (.store m (slotRect 0 h0) (shapeCast S1x512x256 w shapeCasts_S512x256_S1x512x256 : IVec S1x512x256 8) Finset.univ hx (.inl rfl))
def fillO {n : ℕ} (m : Memref sig .tc .vmem (ringS n 256 512) .i8) (h0 : 0 < n) (hx : (m.access (slotRect 0 h0)).Stores Finset.univ) (w : IVec S256x512 8) : P F PUnit := do
  let _ : Vec F S1x256x512 .i8 ← Prog.lift (.load m (slotRect (a := 256) (b := 512) 0 h0).toLoadRect (View.loadsAt_vmem h_S1x256x512))
  Prog.lift (.store m (slotRect 0 h0) (shapeCast S1x256x512 w shapeCasts_S256x512_S1x256x512 : IVec S1x256x512 8) Finset.univ hx (.inl rfl))

/-- Scale the tokens, quantise the core's own weight blocks, and put them into slot 0 of the four flows. -/
def prepare : P F PUnit := do
  let x : Vec F S2x256x512 .f32 ← Prog.lift (.load xM outRect.toLoadRect (View.loadsAt_vmem h_S2x256x512))
  let _ : Vec F S512x512 .bf16 ← Prog.lift (.load xbM xbRect.toLoadRect (View.loadsAt_vmem h_S512x512))
  Prog.lift (.store xbM xbRect (k0_pay1 x) Finset.univ
    (View.stores_vmem h_S512x512 ((Memref.isWhole_whole _).storeExact_slice rfl _ packedbf16_S512x512_S512x512_0_0) (fun _ => rfl)) (.inl rfl))
  let wq : Vec F S512x256 .f32 ← Prog.lift (.load wqM (Rect.unit (s := S512x256) ![0, 0] S512x256.size inb_S512x256_S512x256_0_0).toLoadRect (View.loadsAt_vmem h_S512x256))
  let wo : Vec F S256x512 .f32 ← Prog.lift (.load woM (Rect.unit (s := S256x512) ![0, 0] S256x512.size inb_S256x512_S256x512_0_0).toLoadRect (View.loadsAt_vmem h_S256x512))
  fillQ (ringM .rq) (by decide) (View.stores_vmem h_S1x512x256 ((Memref.isWhole_whole _).storeExact_slice rfl _ packedi8_S5x512x256_S1x512x256_0_0_0) (fun _ => rfl)) (k0_pay2 wq)
  fillO (ringM .ro) (by decide) (View.stores_vmem h_S1x256x512 ((Memref.isWhole_whole _).storeExact_slice rfl _ packedi8_S4x256x512_S1x256x512_0_0_0) (fun _ => rfl)) (k0_pay3 wo)
  fillQ (ringM .lq) (by decide) (View.stores_vmem h_S1x512x256 ((Memref.isWhole_whole _).storeExact_slice rfl _ packedi8_S4x512x256_S1x512x256_0_0_0) (fun _ => rfl)) (k0_pay2 wq)
  fillO (ringM .lo) (by decide) (View.stores_vmem h_S1x256x512 ((Memref.isWhole_whole _).storeExact_slice rfl _ packedi8_S5x256x512_S1x256x512_0_0_0) (fun _ => rfl)) (k0_pay3 wo)

/-- The contributions after the first hop's: one from the left and one from the right. -/
def both (c : Dev nD) (j : Fin 3) : P F PUnit := do
  let y ← contribOf (maskOf c) (ringM .rq) (ringM .ro) (j.val + 1) (by have := j.isLt; show _ < 5; omega) (by have := j.isLt; show _ < 4; omega) (offL c ⟨j.val, by omega⟩)
  putNext y
  let y ← contribOf (maskOf c) (ringM .lq) (ringM .lo) (j.val + 1) (by have := j.isLt; show _ < 4; omega) (by have := j.isLt; show _ < 5; omega) (offR c j)
  putNext y

/-- The kernel's body, from the device's own number on. -/
def ringProg (c : Dev nD) : P F PUnit := do
  meet c
  prepare
  starts c [0, 1, 2, 3]
  let y ← contribOf (maskOf c) (ringM .rq) (ringM .ro) 0 (by decide) (by decide) (offOwn c)
  putFirst y
  waits [0, 1, 2, 3]
  starts c [4, 5, 6, 7]
  both c 0
  waits [4, 5, 6, 7]
  starts c [8, 9, 10, 11]
  both c 1
  waits [8, 9, 10, 11]
  starts c [12, 13]
  both c 2
  waits [12, 13]
  let y ← contribOf (maskOf c) (ringM .rq) (ringM .lo) 4 (by decide) (by decide) (offL c 3)
  putNext y

set_option maxRecDepth 65536 in
set_option maxHeartbeats 4000000 in
/-- The printed body is this program. -/
theorem body_eq :
    cc0_body (F := F) xM (Memref.isWhole_whole _) wqM (Memref.isWhole_whole _) kM (Memref.isWhole_whole _) vM (Memref.isWhole_whole _) woM (Memref.isWhole_whole _)
      outM (Memref.isWhole_whole _) xbM (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 cc0_scratch11 cc0_scratch12
      = (do let c ← Prog.lift .deviceId; ringProg c) := by
  rfl

end Cert.KernelIdeal.Own
-- ==== Proof.Steps.lean ====
/-
  The proof's resource algebra, and the rules of loads and stores for memrefs owned at what they read. A slot of a ring
  is owned as a slice of the ring's buffer; a transfer names the same elements through a view of one axis less, and the
  two are the same ownership.
-/
module

public import proofs.«01_k».proof.Proof.Shape
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Pipeline.BigSepL
public import Idealize.ShloMosaic.Lib.StableHlo
public import Idealize.ShloMosaic.Lib.Memref
public import Idealize.ShloMosaic.Lib.MemrefSat
public import Idealize.ShloMosaic.Lib.ViewIndex
public import Idealize.ShloMosaic.Lib.Tactic
public import Idealize.ShloMosaic.PureOps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging pipeline's, and the rounds of the kernel's own cells with duties named by a bit. -/
abbrev UB : Type := URounds (GSem nD τ sig) Bool
abbrev UU : Type := UR sig nD τ × UB
local notation "𝕄" => MT nD τ sig Unit (Elt F) ℕ UU ℕ
abbrev EP : Emb (UR sig nD τ) 𝕄 := embL
abbrev ER : Emb UB 𝕄 := embR

/-- The kernel calls nothing of variable meaning. -/
abbrev 𝒱₀ : Variants := Variants.none

/-- The weakest precondition of a program on a device's core. -/
abbrev wpc (c : Dev nD) {α : Type} (p : P F α) (Q : α → sProp 𝕄) : sProp 𝕄 :=
  wp frame (wpE (defs₀ (F := F)) 𝒱₀ (c : Thread nD τ) none) Set.univ p Q

section Mem

variable (c : Dev nD) {s : Shape} {e : EltTy} (m : Memref sig .tc .vmem s e) {α : Type} {Q : α → sProp (MT nD τ sig Unit (Elt F) ℕ UU ℕ)}

/-- A memref owned on device `c`, at what it reads. -/
abbrev ownsc (q : PosShare TreeShare) (X : s.Idx → Elt F e) : sProp 𝕄 := owns (c : Thread nD τ) m q X

/-- A load through a rectangle of a memref owned whole reads its part. -/
theorem wp_load_part {r : Rect s} {hl : m.view.LoadsAt r.toLoadRect} {q : PosShare TreeShare} {X : s.Idx → Elt F e}
    {k : (r.shape.Idx → Elt F e) → P F α} :
    ownsc c m q X ⊢ iprop((ownsc c m q X -∗ wpc c (k fun j => X (r.emb j)) Q) -∗ wpc c (Prog.lift (.load m r.toLoadRect hl) >>= k) Q) := by
  unfold ownsc owns
  iintro ⟨%f, %hf, H⟩ Hk
  subst hf
  iapply (wp_load_rect 𝒱₀ (c : Thread nD τ) none Set.univ (m := m) (r := r) (hl := hl) (f := f) (View.set_slice_subset _ _)) $$ [H]
  · iexact H
  iintro H
  iapply Hk
  iexists f
  isplitr; · ipureintro; rfl
  iexact H

/-- A load of a slice owned by itself reads what it holds. -/
theorem wp_load_slice {r : Rect s} {hr : ∀ a, r.stride a = 1} {hl : m.view.LoadsAt r.toLoadRect} {q : PosShare TreeShare} {X : r.shape.Idx → Elt F e}
    {k : (r.shape.Idx → Elt F e) → P F α} :
    ownsc c (m.slice r hr) q X ⊢ iprop((ownsc c (m.slice r hr) q X -∗ wpc c (k X) Q) -∗ wpc c (Prog.lift (.load m r.toLoadRect hl) >>= k) Q) := by
  unfold ownsc owns
  iintro ⟨%f, %hf, H⟩ Hk
  subst hf
  iapply (wp_load_rect 𝒱₀ (c : Thread nD τ) none Set.univ (m := m) (r := r) (hl := hl) (f := f) (Finset.Subset.refl _)) $$ [H]
  · iexact H
  iintro H
  iapply Hk
  iexists f
  isplitr; · ipureintro; rfl
  iexact H

/-- A store to a slice owned by itself leaves the stored value. -/
theorem wp_store_slice {r : Rect s} {hr : ∀ a, r.stride a = 1} {w X : r.shape.Idx → Elt F e} {hx : (m.access r).Stores Finset.univ}
    {hm : Finset.univ = Finset.univ ∨ ∀ a, r.stride a = 1} {k : PUnit → P F α} :
    ownsc c (m.slice r hr) fullShare X
      ⊢ iprop((ownsc c (m.slice r hr) fullShare w -∗ wpc c (k ⟨⟩) Q) -∗ wpc c (Prog.lift (.store m r w Finset.univ hx hm) >>= k) Q) := by
  unfold ownsc owns
  iintro ⟨%f, %hf, H⟩ Hk
  iapply (wp_store 𝒱₀ (c : Thread nD τ) none Set.univ (m := m) (r := r) (w := w) (hx := hx) (hm := hm) (f := f)
    (S := (m.access r).set) (Finset.Subset.refl _)) $$ [H]
  · iexact H
  iintro H
  iapply Hk
  iexists _
  isplitr
  · ipureintro; exact View.read_write_univ (v := m.access r) f w
  iexact H

/-- A store through a rectangle that is all of the memref replaces what it holds. -/
theorem wp_store_all {r : Rect s} (g : s.Idx → r.shape.Idx) (hg : ∀ i, r.emb (g i) = i) {w : r.shape.Idx → Elt F e} {X : s.Idx → Elt F e}
    {hx : (m.access r).Stores Finset.univ}
    {hm : Finset.univ = Finset.univ ∨ ∀ a, r.stride a = 1} {k : PUnit → P F α} :
    ownsc c m fullShare X
      ⊢ iprop((ownsc c m fullShare (fun i => w (g i)) -∗ wpc c (k ⟨⟩) Q) -∗ wpc c (Prog.lift (.store m r w Finset.univ hx hm) >>= k) Q) := by
  unfold ownsc owns
  iintro ⟨%f, %hf, H⟩ Hk
  iapply (wp_store 𝒱₀ (c : Thread nD τ) none Set.univ (m := m) (r := r) (w := w) (hx := hx) (hm := hm) (f := f)
    (S := m.view.set) (View.set_slice_subset _ _)) $$ [H]
  · iexact H
  iintro H
  iapply Hk
  iexists _
  isplitr
  · ipureintro
    funext i
    have h := congrFun (View.read_write_univ (v := m.access r) f w) (g i)
    have h2 : (m.access r).read (Elt F) ((m.access r).write (Elt F) f w Finset.univ) (g i)
        = m.view.read (Elt F) ((m.access r).write (Elt F) f w Finset.univ) (r.emb (g i)) := rfl
    rw [h2, hg] at h
    exact h
  iexact H

end Mem

/-! ### A slot, and the view a transfer names -/

section Slots

/-- The contents of one slot of a flow. -/
abbrev SlotV (F : FTy → Type) (r : Ring) : Type := (slotS1 r.rows r.cols).Idx → Elt F .i8

/-- Slot `k` of flow `r` on device `c`, owned at share `q`, holding `X`. -/
def slotOwn (c : Dev nD) (r : Ring) (k : ℕ) (hk : k < r.cnt) (q : PosShare TreeShare) (X : SlotV F r) : sProp 𝕄 :=
  ownsc c ((ringM r).slice (slotRect k hk) fun _ => rfl) q X

instance slotOwn_storable (c : Dev nD) (r : Ring) (k : ℕ) (hk : k < r.cnt) (q : PosShare TreeShare) (X : SlotV F r) :
    BI.Storable (upEmb : UEmb _ 𝕄) (slotOwn c r k hk q X) := by
  unfold slotOwn; infer_instance

variable (c : Dev nD) (r : Ring) (k : ℕ) (hk : k < r.cnt)

/-- A share of a slot is its two halves. -/
theorem slotOwn_halves (q : PosShare TreeShare) (X : SlotV F r) :
    (slotOwn c r k hk q X : sProp 𝕄) ⊣⊢ iprop(slotOwn c r k hk q.left X ∗ slotOwn c r k hk q.right X) :=
  owns_halves (c : Thread nD τ) ((ringM r).slice (slotRect k hk) fun _ => rfl) q X

/-- The elements under a slot's transfer view. -/
abbrev slotPts (q : PosShare TreeShare) (f : Buf (Elt F) ((slot r k hk).view.loc (c : Thread nD τ))) : sProp 𝕄 :=
  (slot r k hk).view.loc (c : Thread nD τ) ↦[(slot r k hk).view.set]{q} f

/-- What a transfer reads of a slot that holds `X`. -/
def flat (r : Ring) (X : SlotV F r) : (slotS r.rows r.cols).Idx → Elt F .i8 :=
  fun x => X (Shape.reshapeEquiv (ring_squeezes r).numel_eq x)

theorem slotOwn_pts (q : PosShare TreeShare) (X : SlotV F r) :
    slotOwn c r k hk q X ⊢ iprop(∃ f, ⌜(slot r k hk).view.read (Elt F) f = flat r X⌝ ∗ slotPts c r k hk q f) := by
  unfold slotOwn ownsc owns slotPts
  iintro ⟨%f, %hf, H⟩
  iexists f
  isplitr
  · ipureintro
    subst hf
    rfl
  rw [show (slot r k hk).view.set = ((ringM r).slice (slotRect k hk) fun _ => rfl).view.set from View.set_reshape _ _]
  iexact H

theorem pts_slotOwn (q : PosShare TreeShare) (X : SlotV F r) (f : Buf (Elt F) ((slot r k hk).view.loc (c : Thread nD τ)))
    (hf : (slot r k hk).view.read (Elt F) f = flat r X) : slotPts c r k hk q f ⊢ slotOwn c r k hk q X := by
  unfold slotOwn ownsc owns slotPts
  rw [show (slot r k hk).view.set = ((ringM r).slice (slotRect k hk) fun _ => rfl).view.set from View.set_reshape _ _]
  iintro H
  iexists f
  isplitr
  · ipureintro
    funext x
    have h := congrFun hf ((Shape.reshapeEquiv (ring_squeezes r).numel_eq).symm x)
    unfold flat at h
    rw [Equiv.apply_symm_apply] at h
    rw [← h]
    show _ = View.read (Elt F) ((ringM r).slice (slotRect k hk) fun _ => rfl).view f (Shape.reshapeEquiv (ring_squeezes r).numel_eq _)
    rw [Equiv.apply_symm_apply]
  iexact H

end Slots

end Cert.KernelIdeal.Own
-- ==== Proof.Schedule.lean ====
/-
  The exchange's protocol. Every device owns a cell for the barrier, and for each of the fourteen hops a cell counting
  what it has sent and a cell counting what has arrived. The barrier hands each neighbour the slots it is to fill; a
  hop's two cells hand back the slot sent and hand over the slot filled, each at the block that belongs there.
-/
module

public import proofs.«01_k».proof.Proof.Steps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Neighbours -/

/-- The left and the right neighbour on the ring, as the kernel computes them. -/
def Lc (c : Dev nD) : Dev nD := ⟨k0_dev1 c, k0_dev1_lt c⟩
def Rc (c : Dev nD) : Dev nD := ⟨k0_dev2 c, k0_dev2_lt c⟩

theorem Lc_Rc (c : Dev nD) : Lc (Rc c) = c := by revert c; decide +kernel
theorem Rc_Lc (c : Dev nD) : Rc (Lc c) = c := by revert c; decide +kernel

/-- Where a flow sends to, and where it receives from. -/
def nxt : Ring → Dev nD → Dev nD
  | .rq => Rc | .ro => Rc | .lo => Lc | .lq => Lc
def prv : Ring → Dev nD → Dev nD
  | .rq => Lc | .ro => Lc | .lo => Rc | .lq => Rc

theorem prv_nxt : (r : Ring) → (c : Dev nD) → prv r (nxt r c) = c
  | .rq, c => Lc_Rc c | .ro, c => Lc_Rc c | .lo, c => Rc_Lc c | .lq, c => Rc_Lc c
theorem nxt_prv : (r : Ring) → (c : Dev nD) → nxt r (prv r c) = c
  | .rq, c => Rc_Lc c | .ro, c => Rc_Lc c | .lo, c => Lc_Rc c | .lq, c => Lc_Rc c

theorem hopDev_eq (h : Fin 14) (c : Dev nD) : hopDev h c = nxt (hopR h) c := by
  revert h c; decide +kernel

/-- The block in slot `k` of a flow on device `c`: the own block of the device `k` steps back. -/
def slotVal (B : (r : Ring) → Dev nD → SlotV F r) (r : Ring) (k : ℕ) (c : Dev nD) : SlotV F r := B r ((prv r)^[k] c)

theorem slotVal_zero (B : (r : Ring) → Dev nD → SlotV F r) (r : Ring) (c : Dev nD) : slotVal B r 0 c = B r c := rfl
theorem slotVal_succ (B : (r : Ring) → Dev nD → SlotV F r) (r : Ring) (k : ℕ) (c : Dev nD) :
    slotVal B r (k + 1) (nxt r c) = slotVal B r k c := by
  unfold slotVal
  rw [Function.iterate_succ_apply, prv_nxt]

/-! ### Cells -/

/-- The kernel's own semaphores: of each hop the sender's (`true`) and the receiver's (`false`). -/
def osem : Fin 14 × Bool → SemLoc sig
  | (h, true) => .dma (sndSem h)
  | (h, false) => .dma (rcvSem h)

abbrev barCell (c : Dev nD) : GSem nD τ sig := ((c : Thread nD τ), .reg barSem)
abbrev hopCell (c : Dev nD) (x : Fin 14 × Bool) : GSem nD τ sig := ((c : Thread nD τ), osem x)

theorem osem_inj : Function.Injective osem := by decide +kernel
theorem osem_ne_bar (x : Fin 14 × Bool) : osem x ≠ .reg barSem := by revert x; decide +kernel

/-- The hop a semaphore belongs to. -/
def hopOf (s : SemLoc sig) : Option (Fin 14 × Bool) :=
  (Finset.univ.filter fun x : Fin 14 × Bool => osem x = s).toList.head?

theorem hopOf_osem (x : Fin 14 × Bool) : hopOf (osem x) = some x := by
  unfold hopOf
  have h : (Finset.univ.filter fun y : Fin 14 × Bool => osem y = osem x) = {x} := by
    ext y
    simp only [Finset.mem_filter, Finset.mem_univ, true_and, Finset.mem_singleton]
    exact osem_inj.eq_iff
  rw [h, Finset.toList_singleton]
  rfl

/-- The credit of one slot: what a transfer of it adds to a semaphore. -/
def NN : ℕ := (hopDst 0).view.dmaCredit

theorem NN_pos : 0 < NN := View.dmaCredit_pos _ (by decide)
theorem hop_credit (h : Fin 14) : (hopDst h).view.dmaCredit = NN := by revert h; decide +kernel
theorem hop_credit_src (h : Fin 14) : (hopSrc h).view.dmaCredit = NN := by revert h; decide +kernel

/-- The barrier: a unit to either neighbour, then a wait for two. -/
theorem meet_bind {α : Type} (c : Dev nD) (k : PUnit → P F α) : (meet c >>= k : P F α)
    = .op (.semSignal (Lc c : Thread nD τ) barSem 1) fun _ => .op (.semSignal (Rc c : Thread nD τ) barSem 1) fun _ => .op (.semWait barSem 2) k := rfl

attribute [irreducible] NN Lc Rc

/-! ### What is handed over -/

/-- A slot to be filled by hop `h` on device `p`, at any contents, and that its cell is open. -/
def mySlot (p : Dev nD) (h : Fin 14) : sProp 𝕄 :=
  iprop((∃ X : SlotV F (hopR h), slotOwn p (hopR h) (hopK h + 1) (hop_lt h) fullShare X) ∗ reached ER (hopCell p (h, false)) 0)

/-- The hops going right (`true`) and those going left, and the neighbour they go to. -/
def dirHops : Bool → List (Fin 14)
  | true => [0, 1, 4, 5, 8, 9, 12]
  | false => [2, 3, 6, 7, 10, 11, 13]
def nb : Bool → Dev nD → Dev nD
  | true => Rc
  | false => Lc

/-- Handed to device `c` at the barrier by a neighbour: the slots its hops in that direction fill. -/
def barPay (c : Dev nD) (d : Bool) : sProp 𝕄 := bigSepL (dirHops d) (fun h => mySlot (F := F) (nb d c) h)

/-- A slot that is sent, and the slot that a hop fills. -/
def srcOwn (B : (r : Ring) → Dev nD → SlotV F r) (q : PosShare TreeShare) (c : Dev nD) (h : Fin 14) : sProp 𝕄 :=
  slotOwn c (hopR h) (hopK h) (Nat.lt_of_succ_lt (hop_lt h)) q (slotVal B (hopR h) (hopK h) c)
def dstOwn (B : (r : Ring) → Dev nD → SlotV F r) (c : Dev nD) (h : Fin 14) : sProp 𝕄 :=
  slotOwn c (hopR h) (hopK h + 1) (hop_lt h) fullShare (slotVal B (hopR h) (hopK h + 1) c)

/-- Handed over by the cells of a hop: the share of the slot sent, the slot filled. -/
def hopPay (B : (r : Ring) → Dev nD → SlotV F r) (c : Dev nD) : Fin 14 × Bool → sProp 𝕄
  | (h, true) => srcOwn B fullShare.left c h
  | (h, false) => dstOwn B c h

instance mySlot_storable (p : Dev nD) (h : Fin 14) : BI.Storable (upEmb : UEmb _ 𝕄) (mySlot (F := F) p h) := by
  unfold mySlot; infer_instance
instance barPay_storable (c : Dev nD) (d : Bool) : BI.Storable (upEmb : UEmb _ 𝕄) (barPay (F := F) c d) := by
  unfold barPay
  generalize dirHops d = l
  induction l with
  | nil => exact Storable.emp upEmb
  | cons h l ih => rw [bigSepL_cons']; infer_instance
instance hopPay_storable (B : (r : Ring) → Dev nD → SlotV F r) (c : Dev nD) (x : Fin 14 × Bool) : BI.Storable (upEmb : UEmb _ 𝕄) (hopPay B c x) := by
  obtain ⟨h, b⟩ := x
  cases b
  · show BI.Storable upEmb (dstOwn B c h); unfold dstOwn; infer_instance
  · show BI.Storable upEmb (srcOwn B fullShare.left c h); unfold srcOwn; infer_instance

/-- One round on every cell: two units at a barrier, one transfer at a hop's cell. -/
def ringRd (B : (r : Ring) → Dev nD → SlotV F r) : Rounds.Schedule (GSem nD τ sig) Bool 𝕄 where
  duties g r := if r = 0 ∧ g.1.2 = .tc then (if g.2 = .reg barSem then Finset.univ else if (hopOf g.2).isSome then {true} else ∅) else ∅
  unitless _ := False
  amount g _ _ := if g.2 = .reg barSem then 1 else NN
  payload g _ d := if g.2 = .reg barSem then barPay g.1.1 d else match hopOf g.2 with
    | some x => hopPay B g.1.1 x
    | none => iprop(emp)
  amount_pos g _ _ _ := by
    by_cases h : g.2 = .reg barSem
    · rw [if_pos h]; exact Nat.one_pos
    · rw [if_neg h]; exact NN_pos

instance ringRd_payload_storable (B : (r : Ring) → Dev nD → SlotV F r) (g : GSem nD τ sig) (r : ℕ) (d : Bool) :
    BI.Storable (upEmb : UEmb _ 𝕄) ((ringRd B).payload g r d) := by
  show BI.Storable upEmb (if g.2 = .reg barSem then barPay g.1.1 d else match hopOf g.2 with
    | some x => hopPay B g.1.1 x
    | none => iprop(emp))
  (repeat' split) <;> infer_instance

section Tables

variable (B : (r : Ring) → Dev nD → SlotV F r) (c : Dev nD) (x : Fin 14 × Bool)

theorem duties_bar : (ringRd B).duties (barCell c) 0 = Finset.univ := by
  dsimp only [ringRd]; rw [if_pos ⟨rfl, rfl⟩, if_pos rfl]
theorem duties_hop : (ringRd B).duties (hopCell c x) 0 = {true} := by
  dsimp only [ringRd]; rw [if_pos ⟨rfl, rfl⟩, if_neg (osem_ne_bar x), hopOf_osem]; rfl
theorem duties_later (g : GSem nD τ sig) : ∀ r, 1 ≤ r → (ringRd B).duties g r = ∅ := fun r hr => by
  dsimp only [ringRd]; rw [if_neg (fun h => by omega)]
theorem amount_bar (d : Bool) : (ringRd B).amount (barCell c) 0 d = 1 := by dsimp only [ringRd]; exact if_pos rfl
theorem amount_hop (d : Bool) : (ringRd B).amount (hopCell c x) 0 d = NN := by dsimp only [ringRd]; exact if_neg (osem_ne_bar x)
theorem expect_bar : (ringRd B).expect (barCell c) 0 = 2 := by
  unfold Schedule.expect Schedule.amountOf
  rw [duties_bar]
  simp only [amount_bar]
  rfl
theorem expect_hop : (ringRd B).expect (hopCell c x) 0 = NN := by
  unfold Schedule.expect Schedule.amountOf; rw [duties_hop, Finset.sum_singleton, amount_hop]
theorem payload_bar (d : Bool) : (ringRd B).payload (barCell c) 0 d = barPay c d := by dsimp only [ringRd]; exact if_pos rfl
theorem payload_hop (d : Bool) : (ringRd B).payload (hopCell c x) 0 d = hopPay B c x := by
  dsimp only [ringRd]; rw [if_neg (osem_ne_bar x), hopOf_osem]
theorem rest_bar : bigSep ((ringRd B).duties (barCell c) 0 \ ∅) (fun d => (ringRd B).payload (barCell c) 0 d)
    = iprop(barPay (F := F) c true ∗ barPay (F := F) c false) := by
  rw [Finset.sdiff_empty, duties_bar]
  simp only [payload_bar]
  exact bigSep_univ_eq_bigSepL [true, false] (by decide) (by decide) (fun d => barPay (F := F) c d)
theorem rest_hop : bigSep ((ringRd B).duties (hopCell c x) 0 \ ∅) (fun d => (ringRd B).payload (hopCell c x) 0 d) = hopPay B c x := by
  rw [Finset.sdiff_empty, duties_hop, bigSep_singleton, payload_hop]

end Tables

/-! ### What a device owes, and the order of the waits -/

/-- The transfers a device has still to start, each owed to the receiver's cell. -/
def owedHops (c : Dev nD) : List (Fin 14) → CellTallies nD τ sig Unit
  | [] => 0
  | h :: l => owedHops c l + tallyAt (hopCell (hopDev h c) (h, false)) () NN

theorem owedHops_cons (c : Dev nD) (h : Fin 14) (l : List (Fin 14)) :
    owedHops c (h :: l) = owedHops c l + tallyAt (hopCell (hopDev h c) (h, false)) () NN := rfl

abbrev allHops : List (Fin 14) := [0, 1, 2, 3] ++ ([4, 5, 6, 7] ++ ([8, 9, 10, 11] ++ ([12, 13] ++ [])))

/-- At launch a device owes its fourteen transfers and a unit to either neighbour's barrier cell. -/
def O₀ (c : Dev nD) : CellTallies nD τ sig Unit :=
  (owedHops c allHops + tallyAt (barCell (Rc c)) () 1) + tallyAt (barCell (Lc c)) () 1

def L (g : GSem nD τ sig) : Finset Unit := if g.1.2 = .tc then {()} else ∅

/-- The barrier comes first, then the arrivals hop by hop; nobody owes anything to the other cells. -/
def lv (g : GSem nD τ sig) (_ : Unit) : ℕ :=
  if g.2 = .reg barSem then 1 else match hopOf g.2 with
    | some (h, false) => 2 + hopK h
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_snd (c : Dev nD) (h : Fin 14) : lv (hopCell c (h, true)) () = 0 := by
  dsimp only [lv]; rw [if_neg (osem_ne_bar _), hopOf_osem]
theorem lv_rcv (c : Dev nD) (h : Fin 14) : lv (hopCell c (h, false)) () = 2 + hopK h := by
  dsimp only [lv]; rw [if_neg (osem_ne_bar _), hopOf_osem]

/-- Where a list of hops owes anything, it is to the cell of one of them. -/
theorem owedHops_pos {c : Dev nD} {l : List (Fin 14)} {g : GSem nD τ sig} {u : Unit} (h : 0 < owedHops c l g u) :
    ∃ k ∈ l, g = hopCell (hopDev k c) (k, false) := by
  induction l with
  | nil => exact absurd h (Nat.lt_irrefl 0)
  | cons k l ih =>
    have h' : 0 < owedHops c l g u + tallyAt (hopCell (hopDev k c) (k, false)) () NN g u := h
    rw [tallyAt_apply] at h'
    by_cases hk : g = hopCell (hopDev k c) (k, false) ∧ u = ()
    · exact ⟨k, List.mem_cons_self, hk.1⟩
    · rw [if_neg hk, Nat.add_zero] at h'
      obtain ⟨j, hj, e⟩ := ih h'
      exact ⟨j, List.mem_cons_of_mem _ hj, e⟩

/-- A device may wait on a cell of level at most `b` while it owes only hops whose arrivals lie above `b`. -/
theorem mayWait_hops (c : Dev nD) (sm : SemLoc sig) (b : ℕ) (hb : lv ((c : Thread nD τ), sm) () ≤ b) (l : List (Fin 14))
    (hl : ∀ k ∈ l, b < 2 + hopK k) : (levAts L lv : sProp 𝕄) ⊢ MayWait (c : Thread nD τ) sm () (owedHops c l) :=
  MayOwe.of_cut (L := L) (lev := lv) b (fun p hp => by rw [Finset.mem_singleton.mp hp, L_tc]; exact Finset.mem_singleton_self _)
    (fun g u hg => by obtain ⟨k, -, rfl⟩ := owedHops_pos hg; rw [L_tc]; exact Finset.mem_singleton_self _)
    (fun p hp => by rw [Finset.mem_singleton.mp hp]; exact hb)
    (fun g u hg => by obtain ⟨k, hk, rfl⟩ := owedHops_pos hg; rw [lv_rcv]; exact hl k hk)

/-! ### The launch's records -/

def barCells : Finset (GSem nD τ sig) := Finset.univ.image barCell
def scCells : Finset (GSem nD τ sig) := Finset.univ.image fun p : Dev nD × (Fin 14 × Bool) => hopCell p.1 p.2

theorem bar_mem (c : Dev nD) : barCell c ∈ barCells := Finset.mem_image_of_mem _ (Finset.mem_univ c)
theorem hop_mem (c : Dev nD) (x : Fin 14 × Bool) : hopCell c x ∈ scCells :=
  Finset.mem_image_of_mem (fun p : Dev nD × (Fin 14 × Bool) => hopCell p.1 p.2) (Finset.mem_univ (c, x))

/-- What every device may use throughout: the invariants of all cells, and that the barrier cells are open. -/
def records (B : (r : Ring) → Dev nD → SlotV F r) (K : GSem nD τ sig → ℕ) : sProp 𝕄 :=
  iprop(bigSep (barCells ∪ scCells) (fun g => cellInv ER (ringRd B) (K g) g) ∗ bigSep barCells (fun g => reached ER g 0))

instance records_persistent (B : (r : Ring) → Dev nD → SlotV F r) (K : GSem nD τ sig → ℕ) : BI.Persistent (records B K) := by
  unfold records; infer_instance

/-- One member of a separating conjunction. -/
theorem pick {I : Type} [DecidableEq I] {s : Finset I} {i : I} (h : i ∈ s) {Φ : I → sProp 𝕄} : (bigSep s Φ : sProp 𝕄) ⊢ Φ i :=
  bigSep_elim h

theorem records_bar (B : (r : Ring) → Dev nD → SlotV F r) (K : GSem nD τ sig → ℕ) (c : Dev nD) :
    records B K ⊢ cellInv ER (ringRd B) (K (barCell c)) (barCell c) := by
  unfold records
  iintro ⟨H, -⟩
  iapply (pick (Φ := fun g => cellInv ER (ringRd B) (K g) g) (Finset.mem_union_left scCells (bar_mem c)))
  iexact H
theorem records_hop (B : (r : Ring) → Dev nD → SlotV F r) (K : GSem nD τ sig → ℕ) (c : Dev nD) (x : Fin 14 × Bool) :
    records B K ⊢ cellInv ER (ringRd B) (K (hopCell c x)) (hopCell c x) := by
  unfold records
  iintro ⟨H, -⟩
  iapply (pick (Φ := fun g => cellInv ER (ringRd B) (K g) g) (Finset.mem_union_right barCells (hop_mem c x)))
  iexact H
theorem records_reached (B : (r : Ring) → Dev nD → SlotV F r) (K : GSem nD τ sig → ℕ) (c : Dev nD) :
    records B K ⊢ reached ER (barCell c) 0 := by
  unfold records
  iintro ⟨-, H⟩
  iapply (pick (Φ := fun g => (reached ER g 0 : sProp 𝕄)) (bar_mem c))
  iexact H

end Cert.KernelIdeal.Own
-- ==== Proof.Hops.lean ====
/-
  The rules of the exchange's steps: the barrier, the start of a hop, the two waits of a hop, and lists of them.
-/
module

public import proofs.«01_k».proof.Proof.Schedule

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : (r : Ring) → Dev nD → SlotV F r) (K : GSem nD τ sig → ℕ) (c : Dev nD)

/-! ### The states of a hop -/

/-- The right to add to both cells of a hop. -/
def hopTok (h : Fin 14) : sProp 𝕄 :=
  iprop(dutyTok ER (hopCell c (h, true)) 0 true ∗ dutyTok ER (hopCell (hopDev h c) (h, false)) 0 true)
/-- The device's own cells of a hop, untouched, and the credit for what is to arrive. -/
def hopOpen (h : Fin 14) : sProp 𝕄 :=
  iprop(atPos ER (hopCell c (h, true)) 0 ∅ 0 ∗ reached ER (hopCell c (h, true)) 0 ∗ atPos ER (hopCell c (h, false)) 0 ∅ 0
    ∗ cred (tallyAt (hopCell c (h, false)) () NN))
/-- All that starting a hop takes except the slot it sends. -/
def hopReady (h : Fin 14) : sProp 𝕄 := iprop(hopTok (F := F) c h ∗ hopOpen (F := F) c h ∗ mySlot (F := F) (hopDev h c) h)
/-- A hop under way. -/
def hopFly (h : Fin 14) : sProp 𝕄 :=
  iprop(atPos ER (hopCell c (h, true)) 0 ∅ 0 ∗ cred (tallyAt (hopCell c (h, true)) () NN) ∗ atPos ER (hopCell c (h, false)) 0 ∅ 0
    ∗ cred (tallyAt (hopCell c (h, false)) () NN))
/-- A hop done: both counters back at zero. -/
def hopEnd (h : Fin 14) : sProp 𝕄 := iprop(semVal (hopCell c (h, true)) 0 ∗ semVal (hopCell c (h, false)) 0)

theorem close (κ : ℕ) (g : GSem nD τ sig) : iprop(cellInv ER (ringRd B) κ g ∗ atPos ER g (0 + 1) ∅ 0) ⊢ (|={Set.univ}=> semVal g 0 : sProp 𝕄) :=
  Rounds.cell_close ER (ringRd B) (Set.mem_univ κ) id (duties_later B g)

/-! ### One hop -/

theorem wp_start (h : Fin 14) {α : Type} {k : PUnit → P F α} {Q : α → sProp 𝕄} (O : CellTallies nD τ sig Unit) (W : Waits sig Unit) :
    iprop(records B K ∗ hopReady (F := F) c h ∗ srcOwn B fullShare c h
        ∗ owes (c : Thread nD τ) (O + tallyAt (hopCell (hopDev h c) (h, false)) () NN) W)
      ⊢ iprop(((hopFly (F := F) c h ∗ srcOwn B fullShare.right c h ∗ owes (c : Thread nD τ) O W) -∗ wpc c (k ⟨⟩) Q) -∗ wpc c (start c h >>= k) Q) := by
  unfold hopReady hopTok hopOpen mySlot hopFly srcOwn
  iintro ⟨#Hrec, ⟨⟨HtS, HtR⟩, ⟨HaS, #HrS, HaR, HcR⟩, ⟨%X, Hd⟩, #HrR⟩, Hs, HO⟩ Hk
  ihave #HiS := (records_hop B K c (h, true)) $$ Hrec
  ihave #HiR := (records_hop B K (hopDev h c) (h, false)) $$ Hrec
  ihave ⟨Hl, Hr⟩ := (slotOwn_halves c (hopR h) (hopK h) (Nat.lt_of_succ_lt (hop_lt h)) fullShare (slotVal B (hopR h) (hopK h) c)).1 $$ Hs
  ihave ⟨%f, %hf, Hf⟩ := (slotOwn_pts c (hopR h) (hopK h) (Nat.lt_of_succ_lt (hop_lt h)) fullShare.left (slotVal B (hopR h) (hopK h) c)) $$ Hl
  ihave ⟨%fd, -, Hfd⟩ := (slotOwn_pts (hopDev h c) (hopR h) (hopK h + 1) (hop_lt h) fullShare X) $$ Hd
  iapply (Rounds.wp_send_pointsTo 𝒱₀ ER (ringRd B) (c : Thread nD τ) none (c' := (hopDev h c : Thread nD τ)) (src := hopSrc h) (dst := hopDst h)
      (sS := .dma (sndSem h)) (sem := .dma (rcvSem h)) (q := fullShare.left) (fs := f) (κ₁ := K (hopCell c (h, true))) (κ₂ := K (hopCell (hopDev h c) (h, false)))
      (r₁ := 0) (r₂ := 0) (d₁ := true) (d₂ := true) (fd := fd)
      ((duties_hop B c (h, true)).symm ▸ Finset.mem_singleton_self _)
      ((duties_hop B (hopDev h c) (h, false)).symm ▸ Finset.mem_singleton_self _)
      () () NN (hop_credit h) (amount_hop B c (h, true) true) (amount_hop B (hopDev h c) (h, false) true) O rfl (W := W)
      ((pts_slotOwn c (hopR h) (hopK h) (Nat.lt_of_succ_lt (hop_lt h)) fullShare.left (slotVal B (hopR h) (hopK h) c) f hf).trans
        (Entails.of_eq (payload_hop B c (h, true) true).symm))
      ((pts_slotOwn (hopDev h c) (hopR h) (hopK h + 1) (hop_lt h) fullShare (slotVal B (hopR h) (hopK h + 1) (hopDev h c)) _ (by
          rw [View.read_write_univ, hf, hopDev_eq, slotVal_succ])).trans
        (Entails.of_eq (payload_hop B (hopDev h c) (h, false) true).symm))) $$ [Hf Hfd HO HtS HtR]
  · isplitr; · iexact HiS
    isplitr; · iexact HiR
    isplitl [Hf]; · iexact Hf
    isplitl [Hfd]; · iexact Hfd
    isplitl [HO]; · iexact HO
    isplitl [HtS]; · iexact HtS
    isplitr; · iexact HrS
    isplitl [HtR]; · iexact HtR
    iexact HrR
  iintro ⟨HcS, HO⟩
  iapply Hk
  isplitl [HaS HcS HaR HcR]
  · isplitl [HaS]; · iexact HaS
    isplitl [HcS]; · iexact HcS
    isplitl [HaR]; · iexact HaR
    iexact HcR
  isplitl [Hr]; · iexact Hr
  iexact HO

/-- A wait on one of the device's own cells of a hop takes what the cell hands over, and closes the cell. -/
theorem wp_waitCell (x : Fin 14 × Bool) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (osem x) NN Kt)
    {α : Type} {k : PUnit → P F α} {Q : α → sProp 𝕄} (b : ℕ) (hb : lv (hopCell c x) () ≤ b) (l : List (Fin 14)) (hl : ∀ j ∈ l, b < 2 + hopK j) (W : Waits sig Unit) :
    iprop(records B K ∗ levAts L lv ∗ atPos ER (hopCell c x) 0 ∅ 0 ∗ cred (tallyAt (hopCell c x) () NN) ∗ owes (c : Thread nD τ) (owedHops c l) W)
      ⊢ iprop(((semVal (hopCell c x) 0 ∗ hopPay B c x ∗ owes (c : Thread nD τ) (owedHops c l) (insert (osem x, ()) W)) -∗ wpc c (k ⟨⟩) Q)
        -∗ wpc c (Prog.lift w >>= k) Q) := by
  iintro ⟨#Hrec, #Hlev, Ha, Hc, HO⟩ Hk
  ihave #Hi := (records_hop B K c x) $$ Hrec
  iapply (Rounds.wp_wait_rest_token 𝒱₀ ER (ringRd B) (c : Thread nD τ) none (κ := K (hopCell c x))
      hw (Set.mem_univ _) () (O := owedHops c l) (W := W) (R := 0) (m := 0) (T := ∅)
      ((Nat.zero_add _).trans (expect_hop B c x).symm)) $$ [Hc HO Ha]
  · isplitr; · iexact Hi
    isplitl [Hc]; · iexact Hc
    isplitl [HO]; · iexact HO
    isplitr; · iapply (mayWait_hops c (osem x) b hb l hl); iexact Hlev
    iexact Ha
  iintro ⟨HO, Ha, -, Hpay⟩
  ihave Hp := (Entails.of_eq (rest_hop B c x)) $$ Hpay
  iapply (fupd_wp frame (wpE (defs₀ (F := F)) 𝒱₀ (c : Thread nD τ) none) Set.univ _ _)
  imod (close B (K (hopCell c x)) (hopCell c x)) $$ [Ha] with Hs
  · isplitr; · iexact Hi
    iexact Ha
  imodintro
  iapply Hk
  isplitl [Hs]; · iexact Hs
  isplitl [Hp]; · iexact Hp
  iexact HO

/-- The two waits of a hop: the slot sent is whole again, the slot filled is there. -/
theorem wp_waitHop (h : Fin 14) {α : Type} {k : PUnit → P F α} {Q : α → sProp 𝕄} (l : List (Fin 14)) (hl : ∀ j ∈ l, hopK h < hopK j) (W : Waits sig Unit) :
    iprop(records B K ∗ levAts L lv ∗ hopFly (F := F) c h ∗ srcOwn B fullShare.right c h ∗ owes (c : Thread nD τ) (owedHops c l) W)
      ⊢ iprop(((hopEnd (F := F) c h ∗ srcOwn B fullShare c h ∗ dstOwn B c h ∗ ∃ W, owes (c : Thread nD τ) (owedHops c l) W) -∗ wpc c (k ⟨⟩) Q)
        -∗ wpc c (waitSnd h >>= fun _ => waitRcv h >>= k) Q) := by
  unfold hopFly hopEnd
  iintro ⟨#Hrec, #Hlev, ⟨HaS, HcS, HaR, HcR⟩, Hr, HO⟩ Hk
  unfold waitSnd waitRcv
  iapply (wp_waitCell B K c (h, true) (fun Kt => by
      rw [wpE_waitDma2_eq, hop_credit_src]; rfl) 0 (le_of_eq (lv_snd c h)) l (fun j _ => by omega) W) $$ [HaS HcS HO]
  · isplitr; · iexact Hrec
    isplitr; · iexact Hlev
    isplitl [HaS]; · iexact HaS
    isplitl [HcS]; · iexact HcS
    iexact HO
  iintro ⟨HvS, Hl, HO⟩
  iapply (wp_waitCell B K c (h, false) (fun Kt => by
      rw [wpE_waitDma2_eq, hop_credit]; rfl) (2 + hopK h) (le_of_eq (lv_rcv c h)) l (fun j hj => by have := hl j hj; omega) _) $$ [HaR HcR HO]
  · isplitr; · iexact Hrec
    isplitr; · iexact Hlev
    isplitl [HaR]; · iexact HaR
    isplitl [HcR]; · iexact HcR
    iexact HO
  iintro ⟨HvR, Hd, HO⟩
  iapply Hk
  isplitl [HvS HvR]
  · isplitl [HvS]; · iexact HvS
    iexact HvR
  isplitl [Hl Hr]
  · unfold hopPay srcOwn
    iapply (slotOwn_halves c (hopR h) (hopK h) (Nat.lt_of_succ_lt (hop_lt h)) fullShare (slotVal B (hopR h) (hopK h) c)).2
    isplitl [Hl]; · iexact Hl
    iexact Hr
  isplitl [Hd]
  · ihave Hd := (Entails.of_eq (show hopPay B c (h, false) = dstOwn B c h from rfl)) $$ Hd
    iexact Hd
  iexists _; iexact HO

/-! ### Lists of hops -/

theorem wp_starts (l rest : List (Fin 14)) {α : Type} {k : PUnit → P F α} {Q : α → sProp 𝕄} (W : Waits sig Unit) :
    iprop(records B K ∗ bigSepL l (hopReady (F := F) c) ∗ bigSepL l (srcOwn B fullShare c) ∗ owes (c : Thread nD τ) (owedHops c (l ++ rest)) W)
      ⊢ iprop(((bigSepL l (hopFly (F := F) c) ∗ bigSepL l (srcOwn B fullShare.right c) ∗ owes (c : Thread nD τ) (owedHops c rest) W) -∗ wpc c (k ⟨⟩) Q)
        -∗ wpc c (starts c l >>= k) Q) := by
  induction l with
  | nil =>
    rw [List.nil_append]
    simp only [bigSepL_nil]
    iintro ⟨-, H1, H2, HO⟩ Hk
    iapply Hk
    isplitl [H1]; · iexact H1
    isplitl [H2]; · iexact H2
    iexact HO
  | cons h l ih =>
    rw [bigSepL_cons', bigSepL_cons', bigSepL_cons', bigSepL_cons', List.cons_append, owedHops_cons]
    iintro ⟨#Hrec, ⟨H1, H1s⟩, ⟨H2, H2s⟩, HO⟩ Hk
    iapply (wp_start B K c h (k := fun _ => starts c l >>= k) (owedHops c (l ++ rest)) W) $$ [H1 H2 HO]
    · isplitr; · iexact Hrec
      isplitl [H1]; · iexact H1
      isplitl [H2]; · iexact H2
      iexact HO
    iintro ⟨H1, H2, HO⟩
    iapply ih $$ [H1s H2s HO]
    · isplitr; · iexact Hrec
      isplitl [H1s]; · iexact H1s
      isplitl [H2s]; · iexact H2s
      iexact HO
    iintro ⟨H1s, H2s, HO⟩
    iapply Hk
    isplitl [H1 H1s]
    · isplitl [H1]; · iexact H1
      iexact H1s
    isplitl [H2 H2s]
    · isplitl [H2]; · iexact H2
      iexact H2s
    iexact HO

theorem wp_waits (l rest : List (Fin 14)) (hl : ∀ h ∈ l, ∀ j ∈ rest, hopK h < hopK j) {α : Type} {k : PUnit → P F α} {Q : α → sProp 𝕄} :
    iprop(records B K ∗ levAts L lv ∗ bigSepL l (hopFly (F := F) c) ∗ bigSepL l (srcOwn B fullShare.right c) ∗ ∃ W, owes (c : Thread nD τ) (owedHops c rest) W)
      ⊢ iprop(((bigSepL l (hopEnd (F := F) c) ∗ bigSepL l (srcOwn B fullShare c) ∗ bigSepL l (dstOwn B c) ∗ ∃ W, owes (c : Thread nD τ) (owedHops c rest) W) -∗ wpc c (k ⟨⟩) Q)
        -∗ wpc c (waits l >>= k) Q) := by
  induction l with
  | nil =>
    simp only [bigSepL_nil]
    iintro ⟨-, -, H1, H2, HO⟩ Hk
    iapply Hk
    isplitl [H1]; · iexact H1
    isplitl [H2]; · iexact H2
    isplitr; · iempintro
    iexact HO
  | cons h l ih =>
    rw [bigSepL_cons', bigSepL_cons', bigSepL_cons', bigSepL_cons', bigSepL_cons']
    iintro ⟨#Hrec, #Hlev, ⟨H1, H1s⟩, ⟨H2, H2s⟩, ⟨%W, HO⟩⟩ Hk
    iapply (wp_waitHop B K c h (k := fun _ => waits l >>= k) rest (hl h List.mem_cons_self) W) $$ [H1 H2 HO]
    · isplitr; · iexact Hrec
      isplitr; · iexact Hlev
      isplitl [H1]; · iexact H1
      isplitl [H2]; · iexact H2
      iexact HO
    iintro ⟨H1, H2, H3, HO⟩
    iapply (ih fun j hj => hl j (List.mem_cons_of_mem _ hj)) $$ [H1s H2s HO]
    · isplitr; · iexact Hrec
      isplitr; · iexact Hlev
      isplitl [H1s]; · iexact H1s
      isplitl [H2s]; · iexact H2s
      iexact HO
    iintro ⟨H1s, H2s, H3s, HO⟩
    iapply Hk
    isplitl [H1 H1s]
    · isplitl [H1]; · iexact H1
      iexact H1s
    isplitl [H2 H2s]
    · isplitl [H2]; · iexact H2
      iexact H2s
    isplitl [H3 H3s]
    · isplitl [H3]; · iexact H3
      iexact H3s
    iexact HO

/-! ### The barrier -/

/-- Both neighbours met: the device has handed its slots to them and holds theirs. -/
theorem wp_meet {α : Type} {k : PUnit → P F α} {Q : α → sProp 𝕄} (W : Waits sig Unit) :
    iprop(records B K ∗ levAts L lv ∗ barPay (F := F) (Lc c) true ∗ barPay (F := F) (Rc c) false
        ∗ dutyTok ER (barCell (Lc c)) 0 true ∗ dutyTok ER (barCell (Rc c)) 0 false ∗ atPos ER (barCell c) 0 ∅ 0 ∗ cred (tallyAt (barCell c) () 2)
        ∗ owes (c : Thread nD τ) (O₀ c) W)
      ⊢ iprop(((barPay (F := F) c true ∗ barPay (F := F) c false ∗ semVal (barCell c) 0 ∗ ∃ W, owes (c : Thread nD τ) (owedHops c allHops) W) -∗ wpc c (k ⟨⟩) Q)
        -∗ wpc c (meet c >>= k) Q) := by
  rw [meet_bind]
  unfold O₀
  iintro ⟨#Hrec, #Hlev, HpL, HpR, HtL, HtR, Ha, Hc, HO⟩ Hk
  ihave #Hi := (records_bar B K c) $$ Hrec
  ihave #HiL := (records_bar B K (Lc c)) $$ Hrec
  ihave #HiR := (records_bar B K (Rc c)) $$ Hrec
  ihave #HrL := (records_reached B K (Lc c)) $$ Hrec
  ihave #HrR := (records_reached B K (Rc c)) $$ Hrec
  iapply (Rounds.wp_signal 𝒱₀ ER (ringRd B) (c : Thread nD τ) none (dst := (Lc c : Thread nD τ)) (sem := barSem) (r := 0) (d := true) (κ := K (barCell (Lc c)))
      ((duties_bar B (Lc c)).symm ▸ Finset.mem_univ _) (amount_bar B (Lc c) true) () (owedHops c allHops + tallyAt (barCell (Rc c)) () 1) rfl) $$ [HO HtL HpL]
  · isplitr; · iexact HiL
    isplitl [HO]; · iexact HO
    isplitl [HtL]; · iexact HtL
    isplitl [HpL]; · rw [payload_bar]; iexact HpL
    iexact HrL
  iintro HO
  iapply (Rounds.wp_signal 𝒱₀ ER (ringRd B) (c : Thread nD τ) none (dst := (Rc c : Thread nD τ)) (sem := barSem) (r := 0) (d := false) (κ := K (barCell (Rc c)))
      ((duties_bar B (Rc c)).symm ▸ Finset.mem_univ _) (amount_bar B (Rc c) false) () (owedHops c allHops) rfl) $$ [HO HtR HpR]
  · isplitr; · iexact HiR
    isplitl [HO]; · iexact HO
    isplitl [HtR]; · iexact HtR
    isplitl [HpR]; · rw [payload_bar]; iexact HpR
    iexact HrR
  iintro HO
  iapply (Rounds.wp_wait_rest_token 𝒱₀ ER (ringRd B) (c : Thread nD τ) none (κ := K (barCell c))
      (wpE_semWait_eq 𝒱₀ (c : Thread nD τ) none Set.univ) (Set.mem_univ _) () (O := owedHops c allHops) (W := W) (R := 0) (m := 0) (T := ∅)
      ((Nat.zero_add _).trans (expect_bar B c).symm)) $$ [Hc HO Ha]
  · isplitr; · iexact Hi
    isplitl [Hc]; · iexact Hc
    isplitl [HO]; · iexact HO
    isplitr; · iapply (mayWait_hops c (.reg barSem) 1 (le_of_eq (lv_bar c)) allHops (fun j _ => by omega)); iexact Hlev
    iexact Ha
  iintro ⟨HO, Ha, -, Hpay⟩
  ihave ⟨HpT, HpF⟩ := (Entails.of_eq (rest_bar B c)) $$ Hpay
  iapply (fupd_wp frame (wpE (defs₀ (F := F)) 𝒱₀ (c : Thread nD τ) none) Set.univ _ _)
  imod (close B (K (barCell c)) (barCell c)) $$ [Ha] with Hs
  · isplitr; · iexact Hi
    iexact Ha
  imodintro
  iapply Hk
  isplitl [HpT]; · iexact HpT
  isplitl [HpF]; · iexact HpF
  isplitl [Hs]; · iexact Hs
  iexists _; iexact HO

end Cert.KernelIdeal.Own
-- ==== Proof.Rings.lean ====
/-
  A ring's buffer and its slots: owning the buffer is owning the slots one by one.
-/
module

public import proofs.«01_k».proof.Proof.Hops

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Geometry

variable {n a b : ℕ}

/-- An index of the buffer, within its slot. -/
def inSlot (ix : (ringS n a b).Idx) : (slotS1 a b).Idx := fun d => match d with
  | ⟨0, _⟩ => ⟨0, Nat.one_pos⟩
  | ⟨1, _⟩ => ⟨(ix 1).val, (ix 1).isLt⟩
  | ⟨2, _⟩ => ⟨(ix 2).val, (ix 2).isLt⟩

/-- A buffer whose slots hold `Y`. -/
def glue {α : Type} (Y : Fin n → (slotS1 a b).Idx → α) : (ringS n a b).Idx → α := fun ix => Y ⟨(ix 0).val, (ix 0).isLt⟩ (inSlot ix)

theorem slot_emb_val (k : ℕ) (hk : k < n) (j : (slotS1 a b).Idx) (d : Fin 3) :
    (((slotRect (n := n) (a := a) (b := b) k hk).emb j) d : ℕ) = (![k, 0, 0] : Fin 3 → ℕ) d + (j d : ℕ) := by
  rw [Rect.emb_apply]
  show _ + 1 * _ = _
  rw [Nat.one_mul]; rfl

theorem glue_emb {α : Type} (Y : Fin n → (slotS1 a b).Idx → α) (t : Fin n) (j : (slotS1 a b).Idx) :
    glue Y ((slotRect (n := n) (a := a) (b := b) t.val t.isLt).emb j) = Y t j := by
  have h0 : (((slotRect (n := n) (a := a) (b := b) t.val t.isLt).emb j) 0 : ℕ) = t.val := by
    rw [slot_emb_val]
    have : (j 0 : ℕ) < 1 := (j 0).isLt
    show t.val + (j 0 : ℕ) = _
    omega
  have h1 : inSlot ((slotRect (n := n) (a := a) (b := b) t.val t.isLt).emb j) = j := by
    funext d
    match d with
    | ⟨0, _⟩ => exact Fin.ext (by have : (j 0 : ℕ) < 1 := (j 0).isLt; show 0 = (j 0 : ℕ); omega)
    | ⟨1, _⟩ => exact Fin.ext ((slot_emb_val (n := n) t.val t.isLt j 1).trans (Nat.zero_add _))
    | ⟨2, _⟩ => exact Fin.ext ((slot_emb_val (n := n) t.val t.isLt j 2).trans (Nat.zero_add _))
  unfold glue
  rw [h1]
  exact congrArg (fun u => Y u j) (Fin.ext h0)

theorem slots_disjoint (t t' : Fin n) (h : t ≠ t') :
    Disjoint (slotRect (n := n) (a := a) (b := b) t.val t.isLt).set (slotRect (n := n) (a := a) (b := b) t'.val t'.isLt).set := by
  rw [Finset.disjoint_left]
  intro ix h1 h2
  rw [← Rect.map_emb_univ] at h1 h2
  obtain ⟨j, -, rfl⟩ := Finset.mem_map.mp h1
  obtain ⟨j', -, e⟩ := Finset.mem_map.mp h2
  have e0 := congrArg (fun i => ((i 0 : Fin _) : ℕ)) e
  simp only at e0
  rw [slot_emb_val, slot_emb_val] at e0
  have l : (j 0 : ℕ) < 1 := (j 0).isLt
  have l' : (j' 0 : ℕ) < 1 := (j' 0).isLt
  have e1 : t'.val + (j' 0 : ℕ) = t.val + (j 0 : ℕ) := e0
  exact h (Fin.ext (by omega))

theorem slots_cover : (Finset.univ : Finset (Fin n)).biUnion (fun t => (slotRect (n := n) (a := a) (b := b) t.val t.isLt).set) = Finset.univ := by
  ext ix
  simp only [Finset.mem_biUnion, Finset.mem_univ, true_and, iff_true]
  refine ⟨⟨(ix 0).val, (ix 0).isLt⟩, ?_⟩
  rw [← Rect.map_emb_univ]
  refine Finset.mem_map.mpr ⟨inSlot ix, Finset.mem_univ _, ?_⟩
  funext d
  apply Fin.ext
  rw [slot_emb_val]
  match d with
  | ⟨0, _⟩ => exact Nat.add_zero _
  | ⟨1, _⟩ => exact Nat.zero_add _
  | ⟨2, _⟩ => exact Nat.zero_add _

end Geometry

variable (c : Dev nD) (r : Ring) (q : PosShare TreeShare)

/-- The buffer of a flow, cut into its slots. -/
theorem ring_split (X : (ringS r.cnt r.rows r.cols).Idx → Elt F .i8) :
    ownsc c (ringM r) q X ⊢ bigSep Finset.univ fun t : Fin r.cnt =>
      slotOwn c r t.val t.isLt q fun j => X ((slotRect t.val t.isLt).emb j) :=
  owns_rects (c : Thread nD τ) (ringM r) q (fun t : Fin r.cnt => slotRect t.val t.isLt) (fun _ _ => rfl) slots_disjoint slots_cover X

/-- The slots of a flow, joined. -/
theorem ring_join (Y : Fin r.cnt → SlotV F r) :
    (bigSep Finset.univ fun t : Fin r.cnt => slotOwn c r t.val t.isLt q (Y t)) ⊢ ownsc c (ringM r) q (glue Y) := by
  have h := owns_of_rects (Ix := Unit) (Name := ℕ) (U := UU) (Lvl := ℕ) (c : Thread nD τ) (ringM r) q (fun t : Fin r.cnt => slotRect t.val t.isLt) (fun _ _ => rfl) slots_disjoint slots_cover (glue Y)
  refine Entails.trans (Entails.of_eq ?_) h
  congr 1
  funext t
  unfold slotOwn ownsc
  congr 1
  funext j
  exact (glue_emb Y t j).symm

end Cert.KernelIdeal.Own
-- ==== Proof.Body.lean ====
/-
  The run of the kernel's body on one device: from its windows, its buffers and its part of the exchange, it ends with
  the result window at the sum of the eight devices' contributions, in the order in which the kernel adds them.
-/
module

public import proofs.«01_k».proof.Proof.Rings

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### The value of a device's result -/

variable (F) in
/-- The contents of a device's five input windows. -/
structure Ins where
  x : Vec F S2x256x512 .f32
  wq : Vec F S512x256 .f32
  k : Vec F S2x32x64x256 .bf16
  v : Vec F S2x32x256x64 .bf16
  wo : Vec F S256x512 .f32

/-- A device's own quantised blocks, as the flows carry them. -/
def ownBlk (I : Dev nD → Ins F) : (r : Ring) → Dev nD → SlotV F r
  | .rq, p => (shapeCast S1x512x256 (k0_pay2 (I p).wq) shapeCasts_S512x256_S1x512x256 : IVec S1x512x256 8)
  | .ro, p => (shapeCast S1x256x512 (k0_pay3 (I p).wo) shapeCasts_S256x512_S1x256x512 : IVec S1x256x512 8)
  | .lo, p => (shapeCast S1x256x512 (k0_pay3 (I p).wo) shapeCasts_S256x512_S1x256x512 : IVec S1x256x512 8)
  | .lq, p => (shapeCast S1x512x256 (k0_pay2 (I p).wq) shapeCasts_S512x256_S1x512x256 : IVec S1x512x256 8)

/-- One contribution on device `c`: blocks `q` and `o`, the keys and values at `p`. -/
def part (I : Dev nD → Ins F) (c : Dev nD) (q : Vec F S1x512x256 .i8) (o : Vec F S1x256x512 .i8) (p : Offs) : FVec F S2x256x512 .f32 :=
  contrib (maskOf c) (k0_pay1 (I c).x) q o (fun j => (I c).k ((kRect p.k0 p.hk0).emb j)) (fun j => (I c).v ((vRect p.v0 p.hv0).emb j))
    (fun j => (I c).k ((kRect p.k1 p.hk1).emb j)) (fun j => (I c).v ((vRect p.v1 p.hv1).emb j))

/-- Adding a contribution to a partial sum. -/
def plus (a y : FVec F S2x256x512 .f32) : FVec F S2x256x512 .f32 :=
  addf (shapeCast S2x256x512 a shapeCasts_S2x256x512_S2x256x512 : FVec F S2x256x512 .f32) y

/-- The contributions in the order they are added: the own, the two of each of the first three hops, the last. -/
def partOwn (I : Dev nD → Ins F) (c : Dev nD) : FVec F S2x256x512 .f32 :=
  part I c (slotVal (ownBlk I) .rq 0 c) (slotVal (ownBlk I) .ro 0 c) (offOwn c)
def partL (I : Dev nD → Ins F) (c : Dev nD) (j : Fin 3) : FVec F S2x256x512 .f32 :=
  part I c (slotVal (ownBlk I) .rq (j.val + 1) c) (slotVal (ownBlk I) .ro (j.val + 1) c) (offL c ⟨j.val, by omega⟩)
def partR (I : Dev nD → Ins F) (c : Dev nD) (j : Fin 3) : FVec F S2x256x512 .f32 :=
  part I c (slotVal (ownBlk I) .lq (j.val + 1) c) (slotVal (ownBlk I) .lo (j.val + 1) c) (offR c j)
def partLast (I : Dev nD → Ins F) (c : Dev nD) : FVec F S2x256x512 .f32 :=
  part I c (slotVal (ownBlk I) .rq 4 c) (slotVal (ownBlk I) .lo 4 c) (offL c 3)

/-- The sum after the contributions of one hop. -/
def plusBoth (I : Dev nD → Ins F) (c : Dev nD) (j : Fin 3) (a : FVec F S2x256x512 .f32) : FVec F S2x256x512 .f32 :=
  plus (plus a (partL I c j)) (partR I c j)

/-- A device's result. -/
def outVal (I : Dev nD → Ins F) (c : Dev nD) : FVec F S2x256x512 .f32 :=
  plus (plusBoth I c 2 (plusBoth I c 1 (plusBoth I c 0 (partOwn I c)))) (partLast I c)

/-! ### Rectangles that are all of a memref -/

theorem emb_all {s : Shape} {off : Fin s.rank → ℕ} (h0 : ∀ a, off a = 0) (h : ∀ a, off a + s.size a ≤ s.size a) (i : s.Idx) :
    (Rect.unit (s := s) off s.size h).emb i = i := by
  funext a
  apply Fin.ext
  rw [Rect.emb_apply]
  show off a + 1 * (i a : ℕ) = _
  rw [h0, Nat.zero_add, Nat.one_mul]

theorem zeros2 (a : Fin 2) : (![0, 0] : Fin 2 → ℕ) a = 0 := by fin_cases a <;> rfl
theorem zeros3 (a : Fin 3) : (![0, 0, 0] : Fin 3 → ℕ) a = 0 := by fin_cases a <;> rfl

section Run

variable (c : Dev nD) {α : Type} {Q : α → sProp (MT nD τ sig Unit (Elt F) ℕ UU ℕ)}

/-- A load of all of a memref. -/
theorem wp_load_all {s : Shape} {e : EltTy} (m : Memref sig .tc .vmem s e) {off : Fin s.rank → ℕ} (h0 : ∀ a, off a = 0) (h : ∀ a, off a + s.size a ≤ s.size a)
    {hl : m.view.LoadsAt (Rect.unit (s := s) off s.size h).toLoadRect} {q : PosShare TreeShare} {X : s.Idx → Elt F e} {k : (s.Idx → Elt F e) → P F α} :
    ownsc c m q X ⊢ iprop((ownsc c m q X -∗ wpc c (k X) Q)
      -∗ wpc c (Prog.lift (.load m (Rect.unit (s := s) off s.size h).toLoadRect hl) >>= k) Q) := by
  have e : (fun j => X ((Rect.unit (s := s) off s.size h).emb j)) = X := funext fun j => congrArg X (emb_all h0 h j)
  have := wp_load_part c m (r := Rect.unit (s := s) off s.size h) (hl := hl) (q := q) (X := X) (k := k) (Q := Q)
  rw [e] at this
  exact this

/-! ### Contributions -/

/-- The scaled tokens and the windows of keys and values, at what the contributions read. -/
def wins (I : Dev nD → Ins F) : sProp 𝕄 :=
  iprop(ownsc c xbM fullShare (k0_pay1 (I c).x) ∗ ownsc c kM fullShare (I c).k ∗ ownsc c vM fullShare (I c).v)

theorem wp_contribOf (I : Dev nD → Ins F) {n n' : ℕ} (mq : Memref sig .tc .vmem (ringS n 512 256) .i8) (mo : Memref sig .tc .vmem (ringS n' 256 512) .i8)
    (j : ℕ) (hj : j < n) (hj' : j < n') (p : Offs) (q₁ q₂ : PosShare TreeShare) (X : Vec F S1x512x256 .i8) (Y : Vec F S1x256x512 .i8)
    {k : FVec F S2x256x512 .f32 → P F α} :
    iprop(ownsc c (mq.slice (slotRect j hj) fun _ => rfl) q₁ X ∗ ownsc c (mo.slice (slotRect j hj') fun _ => rfl) q₂ Y ∗ wins c I)
      ⊢ iprop(((ownsc c (mq.slice (slotRect j hj) fun _ => rfl) q₁ X ∗ ownsc c (mo.slice (slotRect j hj') fun _ => rfl) q₂ Y ∗ wins c I)
          -∗ wpc c (k (part I c X Y p)) Q) -∗ wpc c (contribOf (maskOf c) mq mo j hj hj' p >>= k) Q) := by
  unfold wins contribOf
  iintro ⟨Hq, Ho, Hx, Hk, Hv⟩ H
  iapply (wp_load_slice c mq (r := slotRect j hj) (hr := fun _ => rfl) (X := X)) $$ [Hq]
  · iexact Hq
  iintro Hq
  iapply (wp_load_slice c mo (r := slotRect j hj') (hr := fun _ => rfl) (X := Y)) $$ [Ho]
  · iexact Ho
  iintro Ho
  iapply (wp_load_all c xbM zeros2 inb_S512x512_S512x512_0_0) $$ [Hx]
  · iexact Hx
  iintro Hx
  iapply (wp_load_part c kM (r := kRect p.k0 p.hk0)) $$ [Hk]
  · iexact Hk
  iintro Hk
  iapply (wp_load_part c vM (r := vRect p.v0 p.hv0)) $$ [Hv]
  · iexact Hv
  iintro Hv
  iapply (wp_load_part c kM (r := kRect p.k1 p.hk1)) $$ [Hk]
  · iexact Hk
  iintro Hk
  iapply (wp_load_part c vM (r := vRect p.v1 p.hv1)) $$ [Hv]
  · iexact Hv
  iintro Hv
  iapply H
  isplitl [Hq]; · iexact Hq
  isplitl [Ho]; · iexact Ho
  isplitl [Hx]; · iexact Hx
  isplitl [Hk]; · iexact Hk
  iexact Hv

theorem wp_putFirst (y A : FVec F S2x256x512 .f32) {k : PUnit → P F α} :
    ownsc c outM fullShare A ⊢ iprop((ownsc c outM fullShare y -∗ wpc c (k ⟨⟩) Q) -∗ wpc c (putFirst y >>= k) Q) := by
  unfold putFirst
  iintro Ho H
  iapply (wp_load_all c outM zeros3 inb_S2x256x512_S2x256x512_0_0_0) $$ [Ho]
  · iexact Ho
  iintro Ho
  iapply (wp_store_all c outM (r := outRect) id (emb_all zeros3 _) (w := y)) $$ [Ho]
  · iexact Ho
  iintro Ho
  iapply H
  iexact Ho

theorem wp_putNext (y A : FVec F S2x256x512 .f32) {k : PUnit → P F α} :
    ownsc c outM fullShare A ⊢ iprop((ownsc c outM fullShare (plus A y) -∗ wpc c (k ⟨⟩) Q) -∗ wpc c (putNext y >>= k) Q) := by
  unfold putNext
  iintro Ho H
  iapply (wp_load_all c outM zeros3 inb_S2x256x512_S2x256x512_0_0_0) $$ [Ho]
  · iexact Ho
  iintro Ho
  iapply (wp_load_all c outM zeros3 inb_S2x256x512_S2x256x512_0_0_0) $$ [Ho]
  · iexact Ho
  iintro Ho
  iapply (wp_store_all c outM (r := outRect) id (emb_all zeros3 _) (w := plus A y)) $$ [Ho]
  · iexact Ho
  iintro Ho
  iapply H
  iexact Ho

theorem wp_both (I : Dev nD → Ins F) (j : Fin 3) (q₁ q₂ q₃ q₄ : PosShare TreeShare) (h₁ : j.val + 1 < Ring.rq.cnt) (h₂ : j.val + 1 < Ring.ro.cnt) (h₃ : j.val + 1 < Ring.lq.cnt) (h₄ : j.val + 1 < Ring.lo.cnt)
    (A : FVec F S2x256x512 .f32) {k : PUnit → P F α} :
    iprop(slotOwn c .rq (j.val + 1) h₁ q₁ (slotVal (ownBlk I) .rq (j.val + 1) c) ∗ slotOwn c .ro (j.val + 1) h₂ q₂ (slotVal (ownBlk I) .ro (j.val + 1) c)
        ∗ slotOwn c .lq (j.val + 1) h₃ q₃ (slotVal (ownBlk I) .lq (j.val + 1) c) ∗ slotOwn c .lo (j.val + 1) h₄ q₄ (slotVal (ownBlk I) .lo (j.val + 1) c)
        ∗ wins c I ∗ ownsc c outM fullShare A)
      ⊢ iprop(((slotOwn c .rq (j.val + 1) h₁ q₁ (slotVal (ownBlk I) .rq (j.val + 1) c) ∗ slotOwn c .ro (j.val + 1) h₂ q₂ (slotVal (ownBlk I) .ro (j.val + 1) c)
        ∗ slotOwn c .lq (j.val + 1) h₃ q₃ (slotVal (ownBlk I) .lq (j.val + 1) c) ∗ slotOwn c .lo (j.val + 1) h₄ q₄ (slotVal (ownBlk I) .lo (j.val + 1) c)
        ∗ wins c I ∗ ownsc c outM fullShare (plusBoth I c j A)) -∗ wpc c (k ⟨⟩) Q) -∗ wpc c (both c j >>= k) Q) := by
  unfold both slotOwn plusBoth partL partR
  simp only [bind_assoc]
  iintro ⟨H1, H2, H3, H4, Hw, Ho⟩ H
  iapply (wp_contribOf c I (ringM .rq) (ringM .ro) (j.val + 1) h₁ h₂ _ q₁ q₂ (slotVal (ownBlk I) .rq (j.val + 1) c) (slotVal (ownBlk I) .ro (j.val + 1) c)) $$ [H1 H2 Hw]
  · isplitl [H1]; · iexact H1
    isplitl [H2]; · iexact H2
    iexact Hw
  iintro ⟨H1, H2, Hw⟩
  iapply (wp_putNext c _ A) $$ [Ho]
  · iexact Ho
  iintro Ho
  iapply (wp_contribOf c I (ringM .lq) (ringM .lo) (j.val + 1) h₃ h₄ (offR c j) q₃ q₄ (slotVal (ownBlk I) .lq (j.val + 1) c) (slotVal (ownBlk I) .lo (j.val + 1) c)) $$ [H3 H4 Hw]
  · isplitl [H3]; · iexact H3
    isplitl [H4]; · iexact H4
    iexact Hw
  iintro ⟨H3, H4, Hw⟩
  iapply (wp_putNext c _ _) $$ [Ho]
  · iexact Ho
  iintro Ho
  iapply H
  isplitl [H1]; · iexact H1
  isplitl [H2]; · iexact H2
  isplitl [H3]; · iexact H3
  isplitl [H4]; · iexact H4
  isplitl [Hw]; · iexact Hw
  iexact Ho

/-! ### Filling the first slots -/

theorem wp_fillQ {n : ℕ} (m : Memref sig .tc .vmem (ringS n 512 256) .i8) (h0 : 0 < n) (hx : (m.access (slotRect 0 h0)).Stores Finset.univ) (w : IVec S512x256 8)
    (X : Vec F S1x512x256 .i8) {k : PUnit → P F α} :
    ownsc c (m.slice (slotRect 0 h0) fun _ => rfl) fullShare X
      ⊢ iprop((ownsc c (m.slice (slotRect 0 h0) fun _ => rfl) fullShare (shapeCast S1x512x256 w shapeCasts_S512x256_S1x512x256 : Vec F S1x512x256 .i8)
        -∗ wpc c (k ⟨⟩) Q) -∗ wpc c (fillQ m h0 hx w >>= k) Q) := by
  unfold fillQ
  iintro Ho H
  iapply (wp_load_slice c m (r := slotRect 0 h0) (hr := fun _ => rfl) (X := X)) $$ [Ho]
  · iexact Ho
  iintro Ho
  iapply (wp_store_slice c m (r := slotRect 0 h0) (hr := fun _ => rfl) (X := X)) $$ [Ho]
  · iexact Ho
  iintro Ho
  iapply H
  iexact Ho
theorem wp_fillO {n : ℕ} (m : Memref sig .tc .vmem (ringS n 256 512) .i8) (h0 : 0 < n) (hx : (m.access (slotRect 0 h0)).Stores Finset.univ) (w : IVec S256x512 8)
    (X : Vec F S1x256x512 .i8) {k : PUnit → P F α} :
    ownsc c (m.slice (slotRect 0 h0) fun _ => rfl) fullShare X
      ⊢ iprop((ownsc c (m.slice (slotRect 0 h0) fun _ => rfl) fullShare (shapeCast S1x256x512 w shapeCasts_S256x512_S1x256x512 : Vec F S1x256x512 .i8)
        -∗ wpc c (k ⟨⟩) Q) -∗ wpc c (fillO m h0 hx w >>= k) Q) := by
  unfold fillO
  iintro Ho H
  iapply (wp_load_slice c m (r := slotRect 0 h0) (hr := fun _ => rfl) (X := X)) $$ [Ho]
  · iexact Ho
  iintro Ho
  iapply (wp_store_slice c m (r := slotRect 0 h0) (hr := fun _ => rfl) (X := X)) $$ [Ho]
  · iexact Ho
  iintro Ho
  iapply H
  iexact Ho

/-- The slots the first hops send, at the own blocks. -/
theorem src_rq (I : Dev nD → Ins F) : ownsc c ((ringM .rq).slice (slotRect 0 (by decide)) fun _ => rfl) fullShare
    (shapeCast S1x512x256 (k0_pay2 (I c).wq) shapeCasts_S512x256_S1x512x256 : Vec F S1x512x256 .i8) ⊢ srcOwn (ownBlk I) fullShare c 0 := Entails.of_eq rfl
theorem src_ro (I : Dev nD → Ins F) : ownsc c ((ringM .ro).slice (slotRect 0 (by decide)) fun _ => rfl) fullShare
    (shapeCast S1x256x512 (k0_pay3 (I c).wo) shapeCasts_S256x512_S1x256x512 : Vec F S1x256x512 .i8) ⊢ srcOwn (ownBlk I) fullShare c 1 := Entails.of_eq rfl
theorem src_lo (I : Dev nD → Ins F) : ownsc c ((ringM .lo).slice (slotRect 0 (by decide)) fun _ => rfl) fullShare
    (shapeCast S1x256x512 (k0_pay3 (I c).wo) shapeCasts_S256x512_S1x256x512 : Vec F S1x256x512 .i8) ⊢ srcOwn (ownBlk I) fullShare c 2 := Entails.of_eq rfl
theorem src_lq (I : Dev nD → Ins F) : ownsc c ((ringM .lq).slice (slotRect 0 (by decide)) fun _ => rfl) fullShare
    (shapeCast S1x512x256 (k0_pay2 (I c).wq) shapeCasts_S512x256_S1x512x256 : Vec F S1x512x256 .i8) ⊢ srcOwn (ownBlk I) fullShare c 3 := Entails.of_eq rfl

/-- The windows the preparation reads. -/
def srcs (I : Dev nD → Ins F) : sProp 𝕄 :=
  iprop(ownsc c xM fullShare (I c).x ∗ ownsc c wqM fullShare (I c).wq ∗ ownsc c woM fullShare (I c).wo)

/-- The four slots that start the flows, at any contents and at the own blocks. -/
def slots0 : sProp 𝕄 :=
  iprop((∃ X : SlotV F .rq, slotOwn c .rq 0 (by decide) fullShare X) ∗ (∃ X : SlotV F .ro, slotOwn c .ro 0 (by decide) fullShare X)
    ∗ (∃ X : SlotV F .lo, slotOwn c .lo 0 (by decide) fullShare X) ∗ (∃ X : SlotV F .lq, slotOwn c .lq 0 (by decide) fullShare X))

theorem wp_prepare (I : Dev nD → Ins F) (Z : Vec F S512x512 .bf16) {k : PUnit → P F α} :
    iprop(srcs c I ∗ ownsc c xbM fullShare Z ∗ slots0 (F := F) c)
      ⊢ iprop(((srcs c I ∗ ownsc c xbM fullShare (k0_pay1 (I c).x) ∗ bigSepL [0, 1, 2, 3] (srcOwn (ownBlk I) fullShare c)) -∗ wpc c (k ⟨⟩) Q)
        -∗ wpc c (prepare >>= k) Q) := by
  unfold srcs slots0 prepare
  rw [bigSepL_cons', bigSepL_cons', bigSepL_cons', bigSepL_singleton]
  iintro ⟨⟨Hx, Hq, Ho⟩, Hb, ⟨%X1, H1⟩, ⟨%X2, H2⟩, ⟨%X3, H3⟩, ⟨%X4, H4⟩⟩ H
  iapply (wp_load_all c xM zeros3 inb_S2x256x512_S2x256x512_0_0_0) $$ [Hx]
  · iexact Hx
  iintro Hx
  iapply (wp_load_all c xbM zeros2 inb_S512x512_S512x512_0_0) $$ [Hb]
  · iexact Hb
  iintro Hb
  iapply (wp_store_all c xbM (r := xbRect) id (emb_all zeros2 _) (w := k0_pay1 (I c).x)) $$ [Hb]
  · iexact Hb
  iintro Hb
  iapply (wp_load_all c wqM zeros2 inb_S512x256_S512x256_0_0) $$ [Hq]
  · iexact Hq
  iintro Hq
  iapply (wp_load_all c woM zeros2 inb_S256x512_S256x512_0_0) $$ [Ho]
  · iexact Ho
  iintro Ho
  unfold slotOwn
  iapply (wp_fillQ c (ringM .rq) (by decide) _ (k0_pay2 (I c).wq) X1) $$ [H1]
  · iexact H1
  iintro H1
  iapply (wp_fillO c (ringM .ro) (by decide) _ (k0_pay3 (I c).wo) X2) $$ [H2]
  · iexact H2
  iintro H2
  iapply (wp_fillQ c (ringM .lq) (by decide) _ (k0_pay2 (I c).wq) X4) $$ [H4]
  · iexact H4
  iintro H4
  iapply (wp_fillO c (ringM .lo) (by decide) _ (k0_pay3 (I c).wo) X3) $$ [H3]
  · iexact H3
  iintro H3
  iapply H
  isplitl [Hx Hq Ho]
  · isplitl [Hx]; · iexact Hx
    isplitl [Hq]; · iexact Hq
    iexact Ho
  isplitl [Hb]; · iexact Hb
  isplitl [H1]; · iapply (src_rq c I); iexact H1
  isplitl [H2]; · iapply (src_ro c I); iexact H2
  isplitl [H3]; · iapply (src_lo c I); iexact H3
  iapply (src_lq c I); iexact H4

end Run

end Cert.KernelIdeal.Own
-- ==== Proof.Run.lean ====
/-
  The run of the kernel's body on one device, put together.
-/
module

public import proofs.«01_k».proof.Proof.Body

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ### Rings at any contents -/

/-- A flow's buffer, at any contents. -/
def ringAny (r : Ring) : sProp 𝕄 := iprop(∃ X : (ringS r.cnt r.rows r.cols).Idx → Elt F .i8, ownsc c (ringM r) fullShare X)
/-- A slot of a flow, at any contents. -/
def slotAny (r : Ring) (k : ℕ) (hk : k < r.cnt) : sProp 𝕄 := iprop(∃ X : SlotV F r, slotOwn c r k hk fullShare X)

theorem ringAny_slots (r : Ring) : ringAny (F := F) c r ⊢ bigSep Finset.univ fun t : Fin r.cnt => slotAny (F := F) c r t.val t.isLt := by
  unfold ringAny
  iintro ⟨%X, H⟩
  have hm : ∀ t : Fin r.cnt, slotOwn c r t.val t.isLt fullShare (fun j => X ((slotRect t.val t.isLt).emb j)) ⊢ slotAny (F := F) c r t.val t.isLt := fun t => by
    unfold slotAny
    iintro H
    iexists _
    iexact H
  ihave H := ((ring_split c r fullShare X).trans (bigSep_mono fun t _ => hm t)) $$ H
  iexact H

/-- The slots a device's peers fill, of one direction. -/
def anyDst (h : Fin 14) : sProp 𝕄 := slotAny (F := F) c (hopR h) (hopK h + 1) (hop_lt h)

theorem ring_rq : ringAny (F := F) c .rq ⊢ iprop(slotAny (F := F) c .rq 0 (by decide) ∗ anyDst (F := F) c 0 ∗ anyDst (F := F) c 4 ∗ anyDst (F := F) c 8 ∗ anyDst (F := F) c 12) :=
  (ringAny_slots c .rq).trans (Entails.of_eq (bigSep_univ_eq_bigSepL [(0 : Fin 5), 1, 2, 3, 4] (by decide) (by decide) _))
theorem ring_ro : ringAny (F := F) c .ro ⊢ iprop(slotAny (F := F) c .ro 0 (by decide) ∗ anyDst (F := F) c 1 ∗ anyDst (F := F) c 5 ∗ anyDst (F := F) c 9) :=
  (ringAny_slots c .ro).trans (Entails.of_eq (bigSep_univ_eq_bigSepL [(0 : Fin 4), 1, 2, 3] (by decide) (by decide) _))
theorem ring_lo : ringAny (F := F) c .lo ⊢ iprop(slotAny (F := F) c .lo 0 (by decide) ∗ anyDst (F := F) c 2 ∗ anyDst (F := F) c 6 ∗ anyDst (F := F) c 10 ∗ anyDst (F := F) c 13) :=
  (ringAny_slots c .lo).trans (Entails.of_eq (bigSep_univ_eq_bigSepL [(0 : Fin 5), 1, 2, 3, 4] (by decide) (by decide) _))
theorem ring_lq : ringAny (F := F) c .lq ⊢ iprop(slotAny (F := F) c .lq 0 (by decide) ∗ anyDst (F := F) c 3 ∗ anyDst (F := F) c 7 ∗ anyDst (F := F) c 11) :=
  (ringAny_slots c .lq).trans (Entails.of_eq (bigSep_univ_eq_bigSepL [(0 : Fin 4), 1, 2, 3] (by decide) (by decide) _))

variable (B : (r : Ring) → Dev nD → SlotV F r)

theorem ring_back (r : Ring) : (bigSep Finset.univ fun t : Fin r.cnt => slotOwn c r t.val t.isLt fullShare (slotVal B r t.val c)) ⊢ ringAny (F := F) c r := by
  unfold ringAny
  iintro H
  iexists _
  iapply (ring_join c r fullShare fun t => slotVal B r t.val c)
  iexact H

theorem back_rq : iprop(srcOwn B fullShare c 0 ∗ srcOwn B fullShare c 4 ∗ srcOwn B fullShare c 8 ∗ srcOwn B fullShare c 12 ∗ dstOwn B c 12) ⊢ ringAny (F := F) c .rq :=
  (Entails.of_eq (bigSep_univ_eq_bigSepL [(0 : Fin 5), 1, 2, 3, 4] (by decide) (by decide) (fun t : Fin 5 => slotOwn c .rq t.val t.isLt fullShare (slotVal B .rq t.val c))).symm).trans (ring_back c B .rq)
theorem back_ro : iprop(srcOwn B fullShare c 1 ∗ srcOwn B fullShare c 5 ∗ srcOwn B fullShare c 9 ∗ dstOwn B c 9) ⊢ ringAny (F := F) c .ro :=
  (Entails.of_eq (bigSep_univ_eq_bigSepL [(0 : Fin 4), 1, 2, 3] (by decide) (by decide) (fun t : Fin 4 => slotOwn c .ro t.val t.isLt fullShare (slotVal B .ro t.val c))).symm).trans (ring_back c B .ro)
theorem back_lo : iprop(srcOwn B fullShare c 2 ∗ srcOwn B fullShare c 6 ∗ srcOwn B fullShare c 10 ∗ srcOwn B fullShare c 13 ∗ dstOwn B c 13) ⊢ ringAny (F := F) c .lo :=
  (Entails.of_eq (bigSep_univ_eq_bigSepL [(0 : Fin 5), 1, 2, 3, 4] (by decide) (by decide) (fun t : Fin 5 => slotOwn c .lo t.val t.isLt fullShare (slotVal B .lo t.val c))).symm).trans (ring_back c B .lo)
theorem back_lq : iprop(srcOwn B fullShare c 3 ∗ srcOwn B fullShare c 7 ∗ srcOwn B fullShare c 11 ∗ dstOwn B c 11) ⊢ ringAny (F := F) c .lq :=
  (Entails.of_eq (bigSep_univ_eq_bigSepL [(0 : Fin 4), 1, 2, 3] (by decide) (by decide) (fun t : Fin 4 => slotOwn c .lq t.val t.isLt fullShare (slotVal B .lq t.val c))).symm).trans (ring_back c B .lq)

/-! ### The hops of either direction -/

theorem nb_hop (d : Bool) (h : Fin 14) (hh : h ∈ dirHops d) : hopDev h c = nb d c := by
  rw [hopDev_eq]
  revert h
  cases d
  · simp only [dirHops]; intro h hh; fin_cases hh <;> rfl
  · simp only [dirHops]; intro h hh; fin_cases hh <;> rfl

theorem all_dirs (Φ : Fin 14 → sProp 𝕄) : bigSepL allHops Φ = iprop(bigSepL (dirHops true) Φ ∗ bigSepL (dirHops false) Φ) := by
  rw [← bigSepL_append, ← bigSep_univ_eq_bigSepL allHops (by decide) (by decide) Φ]
  exact bigSep_univ_eq_bigSepL (dirHops true ++ dirHops false) (by decide) (by decide) Φ

/-- The slots the neighbours handed over, hop by hop. -/
theorem peers : iprop(barPay (F := F) c true ∗ barPay (F := F) c false) ⊢ bigSepL allHops fun h => mySlot (F := F) (hopDev h c) h := by
  rw [all_dirs]
  unfold barPay
  iintro ⟨H1, H2⟩
  isplitl [H1]
  · iapply (bigSepL_mono fun h hh => Entails.of_eq (congrArg (fun p => mySlot (F := F) p h) (nb_hop c true h hh).symm))
    iexact H1
  · iapply (bigSepL_mono fun h hh => Entails.of_eq (congrArg (fun p => mySlot (F := F) p h) (nb_hop c false h hh).symm))
    iexact H2

/-- That a device's receiving cells are open. -/
def rcvOpen (h : Fin 14) : sProp 𝕄 := reached ER (hopCell c (h, false)) 0

theorem bigSepL_pair {I : Type} (l : List I) (Φ Ψ : I → sProp 𝕄) : iprop(bigSepL l Φ ∗ bigSepL l Ψ) ⊢ bigSepL l fun i => iprop(Φ i ∗ Ψ i) := by
  induction l with
  | nil =>
    simp only [bigSepL_nil]
    iintro ⟨H, -⟩
    iexact H
  | cons i l ih =>
    rw [bigSepL_cons', bigSepL_cons', bigSepL_cons']
    iintro ⟨⟨H1, H1s⟩, ⟨H2, H2s⟩⟩
    isplitl [H1 H2]
    · isplitl [H1]; · iexact H1
      iexact H2
    iapply ih
    isplitl [H1s]; · iexact H1s
    iexact H2s

/-- What a device hands to a neighbour at the barrier. -/
theorem give (d : Bool) (p : Dev nD) (hp : nb d p = c) :
    iprop(bigSepL (dirHops d) (anyDst (F := F) c) ∗ bigSepL (dirHops d) (rcvOpen (F := F) c)) ⊢ barPay (F := F) p d := by
  unfold barPay
  rw [hp]
  exact bigSepL_pair (dirHops d) (anyDst (F := F) c) (rcvOpen (F := F) c)

theorem nb_Lc : nb true (Lc c) = c := Rc_Lc c
theorem nb_Rc : nb false (Rc c) = c := Lc_Rc c

/-! ### The groups of hops -/

section Groups

variable (q : PosShare TreeShare)

/-- The slots numbered `k` of the four flows. -/
def four (k : ℕ) (h : k < 4) : sProp 𝕄 :=
  iprop(slotOwn c .rq k (Nat.lt_succ_of_lt h) q (slotVal B .rq k c) ∗ slotOwn c .ro k h q (slotVal B .ro k c)
    ∗ slotOwn c .lo k (Nat.lt_succ_of_lt h) q (slotVal B .lo k c) ∗ slotOwn c .lq k h q (slotVal B .lq k c))

theorem srcs_0 : bigSepL [0, 1, 2, 3] (srcOwn B q c) = four c B q 0 (by decide) := rfl
theorem srcs_1 : bigSepL [4, 5, 6, 7] (srcOwn B q c) = four c B q 1 (by decide) := rfl
theorem srcs_2 : bigSepL [8, 9, 10, 11] (srcOwn B q c) = four c B q 2 (by decide) := rfl
theorem srcs_3 : bigSepL [12, 13] (srcOwn B q c)
    = iprop(slotOwn c .rq 3 (by decide) q (slotVal B .rq 3 c) ∗ slotOwn c .lo 3 (by decide) q (slotVal B .lo 3 c)) := rfl
theorem dsts_3 : bigSepL [12, 13] (dstOwn B c)
    = iprop(slotOwn c .rq 4 (by decide) fullShare (slotVal B .rq 4 c) ∗ slotOwn c .lo 4 (by decide) fullShare (slotVal B .lo 4 c)) := rfl
theorem dsts_0 : bigSepL [0, 1, 2, 3] (dstOwn B c) = four c B fullShare 1 (by decide) := rfl
theorem dsts_1 : bigSepL [4, 5, 6, 7] (dstOwn B c) = four c B fullShare 2 (by decide) := rfl
theorem dsts_2 : bigSepL [8, 9, 10, 11] (dstOwn B c) = four c B fullShare 3 (by decide) := rfl

end Groups

/-- The contributions of one hop, from the four slots. -/
theorem wp_bothFour (I : Dev nD → Ins F) (j : Fin 3) (k : ℕ) (hk : k < 4) (e : k = j.val + 1) (q₁ q₂ q₃ q₄ : PosShare TreeShare) (A : FVec F S2x256x512 .f32)
    {α : Type} {Q : α → sProp 𝕄} {kk : PUnit → P F α} :
    iprop((slotOwn c .rq k (Nat.lt_succ_of_lt hk) q₁ (slotVal (ownBlk I) .rq k c) ∗ slotOwn c .ro k hk q₂ (slotVal (ownBlk I) .ro k c)
        ∗ slotOwn c .lo k (Nat.lt_succ_of_lt hk) q₃ (slotVal (ownBlk I) .lo k c) ∗ slotOwn c .lq k hk q₄ (slotVal (ownBlk I) .lq k c)) ∗ wins c I ∗ ownsc c outM fullShare A)
      ⊢ iprop((((slotOwn c .rq k (Nat.lt_succ_of_lt hk) q₁ (slotVal (ownBlk I) .rq k c) ∗ slotOwn c .ro k hk q₂ (slotVal (ownBlk I) .ro k c)
        ∗ slotOwn c .lo k (Nat.lt_succ_of_lt hk) q₃ (slotVal (ownBlk I) .lo k c) ∗ slotOwn c .lq k hk q₄ (slotVal (ownBlk I) .lq k c)) ∗ wins c I
        ∗ ownsc c outM fullShare (plusBoth I c j A)) -∗ wpc c (kk ⟨⟩) Q) -∗ wpc c (both c j >>= kk) Q) := by
  subst e
  iintro ⟨⟨H1, H2, H3, H4⟩, Hw, Ho⟩ H
  iapply (wp_both c I j q₁ q₂ q₄ q₃ (Nat.lt_succ_of_lt hk) hk hk (Nat.lt_succ_of_lt hk) A) $$ [H1 H2 H3 H4 Hw Ho]
  · isplitl [H1]; · iexact H1
    isplitl [H2]; · iexact H2
    isplitl [H4]; · iexact H4
    isplitl [H3]; · iexact H3
    isplitl [Hw]; · iexact Hw
    iexact Ho
  iintro ⟨H1, H2, H4, H3, Hw, Ho⟩
  iapply H
  isplitl [H1 H2 H3 H4]
  · isplitl [H1]; · iexact H1
    isplitl [H2]; · iexact H2
    isplitl [H3]; · iexact H3
    iexact H4
  isplitl [Hw]; · iexact Hw
  iexact Ho

/-! ### The whole body -/

/-- A device's part of the exchange. -/
def exch : sProp 𝕄 :=
  iprop(bigSepL allHops (hopTok (F := F) c) ∗ bigSepL allHops (hopOpen (F := F) c) ∗ bigSepL allHops (rcvOpen (F := F) c)
    ∗ dutyTok ER (barCell (Lc c)) 0 true ∗ dutyTok ER (barCell (Rc c)) 0 false ∗ atPos ER (barCell c) 0 ∅ 0 ∗ cred (tallyAt (barCell c) () 2))

/-- A device's flows, at any contents. -/
def ringsAny : sProp 𝕄 :=
  iprop(ringAny (F := F) c .rq ∗ ringAny (F := F) c .ro ∗ ringAny (F := F) c .lq ∗ ringAny (F := F) c .lo)

/-- The flows, cut: the slots the device fills itself, and those its neighbours fill. -/
theorem rings_cut : ringsAny (F := F) c ⊢ iprop(slots0 (F := F) c ∗ bigSepL (dirHops true) (anyDst (F := F) c) ∗ bigSepL (dirHops false) (anyDst (F := F) c)) := by
  unfold ringsAny slots0 dirHops
  simp only [bigSepL_cons', bigSepL_nil]
  iintro ⟨H1, H2, H3, H4⟩
  ihave ⟨A0, A1, A2, A3, A4⟩ := (ring_rq (F := F) c) $$ H1
  ihave ⟨B0, B1, B2, B3⟩ := (ring_ro (F := F) c) $$ H2
  ihave ⟨C0, C1, C2, C3⟩ := (ring_lq (F := F) c) $$ H3
  ihave ⟨D0, D1, D2, D3, D4⟩ := (ring_lo (F := F) c) $$ H4
  unfold slotAny
  isplitl [A0 B0 C0 D0]
  · isplitl [A0]; · iexact A0
    isplitl [B0]; · iexact B0
    isplitl [D0]; · iexact D0
    iexact C0
  isplitl [A1 A2 A3 A4 B1 B2 B3]
  · isplitl [A1]; · iexact A1
    isplitl [B1]; · iexact B1
    isplitl [A2]; · iexact A2
    isplitl [B2]; · iexact B2
    isplitl [A3]; · iexact A3
    isplitl [B3]; · iexact B3
    isplitl [A4]; · iexact A4
    iempintro
  · isplitl [D1]; · iexact D1
    isplitl [C1]; · iexact C1
    isplitl [D2]; · iexact D2
    isplitl [C2]; · iexact C2
    isplitl [D3]; · iexact D3
    isplitl [C3]; · iexact C3
    isplitl [D4]; · iexact D4
    iempintro

theorem four_out (q : PosShare TreeShare) (k : ℕ) (hk : k < 4) : four c B q k hk ⊢
    iprop(slotOwn c .rq k (Nat.lt_succ_of_lt hk) q (slotVal B .rq k c) ∗ slotOwn c .ro k hk q (slotVal B .ro k c)
      ∗ slotOwn c .lo k (Nat.lt_succ_of_lt hk) q (slotVal B .lo k c) ∗ slotOwn c .lq k hk q (slotVal B .lq k c)) := by
  unfold four; exact Entails.refl _

theorem four_in (q : PosShare TreeShare) (k : ℕ) (hk : k < 4) :
    iprop(slotOwn c .rq k (Nat.lt_succ_of_lt hk) q (slotVal B .rq k c) ∗ slotOwn c .ro k hk q (slotVal B .ro k c)
      ∗ slotOwn c .lo k (Nat.lt_succ_of_lt hk) q (slotVal B .lo k c) ∗ slotOwn c .lq k hk q (slotVal B .lq k c)) ⊢ four c B q k hk := by
  unfold four; exact Entails.refl _

/-- Everything the hops need, group by group. -/
theorem ready_groups : (bigSepL allHops fun h => iprop(hopTok (F := F) c h ∗ (hopOpen (F := F) c h ∗ mySlot (F := F) (hopDev h c) h)))
    ⊢ iprop(bigSepL [0, 1, 2, 3] (hopReady (F := F) c) ∗ bigSepL [4, 5, 6, 7] (hopReady (F := F) c) ∗ bigSepL [8, 9, 10, 11] (hopReady (F := F) c)
        ∗ bigSepL [12, 13] (hopReady (F := F) c)) :=
  Entails.of_eq (by
    show bigSepL ([0, 1, 2, 3] ++ ([4, 5, 6, 7] ++ ([8, 9, 10, 11] ++ [12, 13]))) (hopReady (F := F) c) = _
    rw [bigSepL_append, bigSepL_append, bigSepL_append])

theorem end_groups : iprop(bigSepL [0, 1, 2, 3] (hopEnd (F := F) c) ∗ bigSepL [4, 5, 6, 7] (hopEnd (F := F) c) ∗ bigSepL [8, 9, 10, 11] (hopEnd (F := F) c)
        ∗ bigSepL [12, 13] (hopEnd (F := F) c)) ⊢ bigSepL allHops (hopEnd (F := F) c) :=
  Entails.of_eq (by
    show _ = bigSepL ([0, 1, 2, 3] ++ ([4, 5, 6, 7] ++ ([8, 9, 10, 11] ++ [12, 13]))) (hopEnd (F := F) c)
    rw [bigSepL_append, bigSepL_append, bigSepL_append])

/-- The flows, joined again when every hop is done. -/
theorem rings_join : iprop(four c B fullShare 0 (by decide) ∗ four c B fullShare 1 (by decide) ∗ four c B fullShare 2 (by decide) ∗ four c B fullShare 3 (by decide)
    ∗ bigSepL [12, 13] (dstOwn B c)) ⊢ ringsAny (F := F) c := by
  rw [← srcs_0, ← srcs_1, ← srcs_2, ← dsts_2]
  simp only [bigSepL_cons', bigSepL_nil]
  unfold ringsAny
  iintro ⟨⟨A0, B0, C0, D0, -⟩, ⟨A1, B1, C1, D1, -⟩, ⟨A2, B2, C2, D2, -⟩, ⟨A3, B3, C3, D3, -⟩, ⟨A4, C4, -⟩⟩
  isplitl [A0 A1 A2 A3 A4]
  · iapply (back_rq c B)
    isplitl [A0]; · iexact A0
    isplitl [A1]; · iexact A1
    isplitl [A2]; · iexact A2
    isplitl [A3]; · iapply (Entails.of_eq (show dstOwn B c 8 = srcOwn B fullShare c 12 from rfl)); iexact A3
    iexact A4
  isplitl [B0 B1 B2 B3]
  · iapply (back_ro c B)
    isplitl [B0]; · iexact B0
    isplitl [B1]; · iexact B1
    isplitl [B2]; · iexact B2
    iexact B3
  isplitl [D0 D1 D2 D3]
  · iapply (back_lq c B)
    isplitl [D0]; · iexact D0
    isplitl [D1]; · iexact D1
    isplitl [D2]; · iexact D2
    iexact D3
  · iapply (back_lo c B)
    isplitl [C0]; · iexact C0
    isplitl [C1]; · iexact C1
    isplitl [C2]; · iexact C2
    isplitl [C3]; · iapply (Entails.of_eq (show dstOwn B c 10 = srcOwn B fullShare c 13 from rfl)); iexact C3
    iexact C4

variable (K : GSem nD τ sig → ℕ)

/-- The body's run: the windows keep what they hold, the result window ends at the device's result, the flows come
    back at some contents and every counter at zero. -/
theorem body_run (I : Dev nD → Ins F) (A : FVec F S2x256x512 .f32) (Z : Vec F S512x512 .bf16) (W : Waits sig Unit) {α : Type} {Q : α → sProp 𝕄} {k : PUnit → P F α} :
    iprop(records (ownBlk I) K ∗ levAts L lv ∗ exch (F := F) c ∗ owes (c : Thread nD τ) (O₀ c) W ∗ ringsAny (F := F) c
        ∗ srcs c I ∗ ownsc c kM fullShare (I c).k ∗ ownsc c vM fullShare (I c).v ∗ ownsc c outM fullShare A ∗ ownsc c xbM fullShare Z)
      ⊢ iprop(((bigSepL allHops (hopEnd (F := F) c) ∗ semVal (barCell c) 0 ∗ (∃ W, owes (c : Thread nD τ) (0 : CellTallies nD τ sig Unit) W) ∗ ringsAny (F := F) c
          ∗ srcs c I ∗ ownsc c kM fullShare (I c).k ∗ ownsc c vM fullShare (I c).v ∗ ownsc c outM fullShare (outVal I c) ∗ ownsc c xbM fullShare (k0_pay1 (I c).x)) -∗ wpc c (k ⟨⟩) Q)
        -∗ wpc c (ringProg c >>= k) Q) := by
  unfold exch
  iintro ⟨#Hrec, #Hlev, ⟨Ht, Hop, Hro, HtL, HtR, Ha, Hc⟩, HO, Hrings, Hs, Hk, Hv, Ho, Hb⟩ H
  ihave ⟨H0, HdT, HdF⟩ := (rings_cut (F := F) c) $$ Hrings
  ihave ⟨HroT, HroF⟩ := (Entails.of_eq (all_dirs (rcvOpen (F := F) c))) $$ Hro
  unfold ringProg
  simp only [bind_assoc]
  iapply (wp_meet (ownBlk I) K c W) $$ [HdT HdF HroT HroF HtL HtR Ha Hc HO]
  · isplitr; · iexact Hrec
    isplitr; · iexact Hlev
    isplitl [HdT HroT]
    · iapply (give c true (Lc c) (nb_Lc c))
      isplitl [HdT]; · iexact HdT
      iexact HroT
    isplitl [HdF HroF]
    · iapply (give c false (Rc c) (nb_Rc c))
      isplitl [HdF]; · iexact HdF
      iexact HroF
    isplitl [HtL]; · iexact HtL
    isplitl [HtR]; · iexact HtR
    isplitl [Ha]; · iexact Ha
    isplitl [Hc]; · iexact Hc
    iexact HO
  iintro ⟨HpT, HpF, HvB, ⟨%W1, HO⟩⟩
  ihave Hpe := (peers (F := F) c) $$ [HpT HpF]
  · isplitl [HpT]; · iexact HpT
    iexact HpF
  ihave Hoe := (bigSepL_pair allHops (hopOpen (F := F) c) fun h => mySlot (F := F) (hopDev h c) h) $$ [Hop Hpe]
  · isplitl [Hop]; · iexact Hop
    iexact Hpe
  ihave Hrd := (bigSepL_pair allHops (hopTok (F := F) c) fun h => iprop(hopOpen (F := F) c h ∗ mySlot (F := F) (hopDev h c) h)) $$ [Ht Hoe]
  · isplitl [Ht]; · iexact Ht
    iexact Hoe
  ihave ⟨R0, R1, R2, R3⟩ := (ready_groups (F := F) c) $$ Hrd
  iapply (wp_prepare c I Z) $$ [Hs Hb H0]
  · isplitl [Hs]; · iexact Hs
    isplitl [Hb]; · iexact Hb
    iexact H0
  iintro ⟨Hs, Hb, S0⟩
  iapply (wp_starts (ownBlk I) K c [0, 1, 2, 3] ([4, 5, 6, 7] ++ ([8, 9, 10, 11] ++ ([12, 13] ++ []))) W1) $$ [R0 S0 HO]
  · isplitr; · iexact Hrec
    isplitl [R0]; · iexact R0
    isplitl [S0]; · iexact S0
    iexact HO
  iintro ⟨F0, S0, HO⟩
  ihave Hw := (Entails.of_eq (show iprop(ownsc c xbM fullShare (k0_pay1 (I c).x) ∗ ownsc c kM fullShare (I c).k ∗ ownsc c vM fullShare (I c).v) = wins c I from rfl)) $$ [Hb Hk Hv]
  · isplitl [Hb]; · iexact Hb
    isplitl [Hk]; · iexact Hk
    iexact Hv
  ihave ⟨A1, A2, A3, A4⟩ := ((Entails.of_eq (srcs_0 c (ownBlk I) fullShare.right)).trans (four_out c (ownBlk I) fullShare.right 0 (by decide))) $$ S0
  unfold slotOwn
  iapply (wp_contribOf c I (ringM .rq) (ringM .ro) 0 _ _ _ fullShare.right fullShare.right (slotVal (ownBlk I) .rq 0 c) (slotVal (ownBlk I) .ro 0 c)) $$ [A1 A2 Hw]
  · isplitl [A1]; · iexact A1
    isplitl [A2]; · iexact A2
    iexact Hw
  iintro ⟨A1, A2, Hw⟩
  iapply (wp_putFirst c _ A) $$ [Ho]
  · iexact Ho
  iintro Ho
  ihave S0 := (Entails.of_eq ((srcs_0 c (ownBlk I) fullShare.right).trans (by unfold four slotOwn; rfl)).symm) $$ [A1 A2 A3 A4]
  · isplitl [A1]; · iexact A1
    isplitl [A2]; · iexact A2
    isplitl [A3]; · iexact A3
    iexact A4
  iapply (wp_waits (ownBlk I) K c [0, 1, 2, 3] ([4, 5, 6, 7] ++ ([8, 9, 10, 11] ++ ([12, 13] ++ []))) (by decide)) $$ [F0 S0 HO]
  · isplitr; · iexact Hrec
    isplitr; · iexact Hlev
    isplitl [F0]; · iexact F0
    isplitl [S0]; · iexact S0
    iexists _; iexact HO
  iintro ⟨E0, S0, D0, ⟨%W2, HO⟩⟩
  ihave S1 := (Entails.of_eq ((dsts_0 c (ownBlk I)).trans (srcs_1 c (ownBlk I) fullShare).symm)) $$ D0
  iapply (wp_starts (ownBlk I) K c [4, 5, 6, 7] ([8, 9, 10, 11] ++ ([12, 13] ++ [])) W2) $$ [R1 S1 HO]
  · isplitr; · iexact Hrec
    isplitl [R1]; · iexact R1
    isplitl [S1]; · iexact S1
    iexact HO
  iintro ⟨F1, S1, HO⟩
  ihave S1 := (Entails.of_eq ((srcs_1 c (ownBlk I) fullShare.right).trans (by unfold four; rfl))) $$ S1
  iapply (wp_bothFour c I 0 1 (by decide) rfl fullShare.right fullShare.right fullShare.right fullShare.right _) $$ [S1 Hw Ho]
  · isplitl [S1]; · iexact S1
    isplitl [Hw]; · iexact Hw
    iexact Ho
  iintro ⟨S1, Hw, Ho⟩
  ihave S1 := (Entails.of_eq ((srcs_1 c (ownBlk I) fullShare.right).trans (by unfold four; rfl)).symm) $$ S1
  iapply (wp_waits (ownBlk I) K c [4, 5, 6, 7] ([8, 9, 10, 11] ++ ([12, 13] ++ [])) (by decide)) $$ [F1 S1 HO]
  · isplitr; · iexact Hrec
    isplitr; · iexact Hlev
    isplitl [F1]; · iexact F1
    isplitl [S1]; · iexact S1
    iexists _; iexact HO
  iintro ⟨E1, S1, D1, ⟨%W3, HO⟩⟩
  ihave S2 := (Entails.of_eq ((dsts_1 c (ownBlk I)).trans (srcs_2 c (ownBlk I) fullShare).symm)) $$ D1
  iapply (wp_starts (ownBlk I) K c [8, 9, 10, 11] ([12, 13] ++ []) W3) $$ [R2 S2 HO]
  · isplitr; · iexact Hrec
    isplitl [R2]; · iexact R2
    isplitl [S2]; · iexact S2
    iexact HO
  iintro ⟨F2, S2, HO⟩
  ihave S2 := (Entails.of_eq ((srcs_2 c (ownBlk I) fullShare.right).trans (by unfold four; rfl))) $$ S2
  iapply (wp_bothFour c I 1 2 (by decide) rfl fullShare.right fullShare.right fullShare.right fullShare.right _) $$ [S2 Hw Ho]
  · isplitl [S2]; · iexact S2
    isplitl [Hw]; · iexact Hw
    iexact Ho
  iintro ⟨S2, Hw, Ho⟩
  ihave S2 := (Entails.of_eq ((srcs_2 c (ownBlk I) fullShare.right).trans (by unfold four; rfl)).symm) $$ S2
  iapply (wp_waits (ownBlk I) K c [8, 9, 10, 11] ([12, 13] ++ []) (by decide)) $$ [F2 S2 HO]
  · isplitr; · iexact Hrec
    isplitr; · iexact Hlev
    isplitl [F2]; · iexact F2
    isplitl [S2]; · iexact S2
    iexists _; iexact HO
  iintro ⟨E2, S2, D2, ⟨%W4, HO⟩⟩
  ihave ⟨A1, A2, A3, A4⟩ := ((Entails.of_eq (dsts_2 c (ownBlk I))).trans (four_out c (ownBlk I) fullShare 3 (by decide))) $$ D2
  ihave S3 := (Entails.of_eq (srcs_3 c (ownBlk I) fullShare).symm) $$ [A1 A3]
  · isplitl [A1]; · iexact A1
    iexact A3
  iapply (wp_starts (ownBlk I) K c [12, 13] [] W4) $$ [R3 S3 HO]
  · isplitr; · iexact Hrec
    isplitl [R3]; · iexact R3
    isplitl [S3]; · iexact S3
    iexact HO
  iintro ⟨F3, S3, HO⟩
  ihave ⟨A1, A3⟩ := (Entails.of_eq (srcs_3 c (ownBlk I) fullShare.right)) $$ S3
  iapply (wp_bothFour c I 2 3 (by decide) rfl fullShare.right fullShare fullShare.right fullShare _) $$ [A1 A2 A3 A4 Hw Ho]
  · isplitl [A1 A2 A3 A4]
    · isplitl [A1]; · iexact A1
      isplitl [A2]; · iexact A2
      isplitl [A3]; · iexact A3
      iexact A4
    isplitl [Hw]; · iexact Hw
    iexact Ho
  iintro ⟨⟨A1, A2, A3, A4⟩, Hw, Ho⟩
  ihave S3 := (Entails.of_eq (srcs_3 c (ownBlk I) fullShare.right).symm) $$ [A1 A3]
  · isplitl [A1]; · iexact A1
    iexact A3
  iapply (wp_waits (ownBlk I) K c [12, 13] [] (by decide)) $$ [F3 S3 HO]
  · isplitr; · iexact Hrec
    isplitr; · iexact Hlev
    isplitl [F3]; · iexact F3
    isplitl [S3]; · iexact S3
    iexists _; iexact HO
  iintro ⟨E3, S3, D3, HO⟩
  ihave ⟨A1, A3⟩ := (Entails.of_eq (srcs_3 c (ownBlk I) fullShare)) $$ S3
  ihave ⟨L1, L2⟩ := (Entails.of_eq (dsts_3 c (ownBlk I))) $$ D3
  unfold slotOwn
  iapply (wp_contribOf c I (ringM .rq) (ringM .lo) 4 _ _ _ fullShare fullShare (slotVal (ownBlk I) .rq 4 c) (slotVal (ownBlk I) .lo 4 c)) $$ [L1 L2 Hw]
  · isplitl [L1]; · iexact L1
    isplitl [L2]; · iexact L2
    iexact Hw
  iintro ⟨L1, L2, Hw⟩
  iapply (wp_putNext c _ _) $$ [Ho]
  · iexact Ho
  iintro Ho
  iapply H
  isplitl [E0 E1 E2 E3]
  · iapply (end_groups (F := F) c)
    isplitl [E0]; · iexact E0
    isplitl [E1]; · iexact E1
    isplitl [E2]; · iexact E2
    iexact E3
  isplitl [HvB]; · iexact HvB
  isplitl [HO]; · iexact HO
  isplitl [S0 S1 S2 A1 A2 A3 A4 L1 L2]
  · iapply (rings_join c (ownBlk I))
    isplitl [S0]; · iapply (Entails.of_eq (srcs_0 c (ownBlk I) fullShare)); iexact S0
    isplitl [S1]; · iapply (Entails.of_eq (srcs_1 c (ownBlk I) fullShare)); iexact S1
    isplitl [S2]; · iapply (Entails.of_eq (srcs_2 c (ownBlk I) fullShare)); iexact S2
    isplitl [A1 A2 A3 A4]
    · unfold four slotOwn
      isplitl [A1]; · iexact A1
      isplitl [A2]; · iexact A2
      isplitl [A3]; · iexact A3
      iexact A4
    iapply (Entails.of_eq ((dsts_3 c (ownBlk I)).trans (by unfold slotOwn; rfl)).symm)
    isplitl [L1]; · iexact L1
    iexact L2
  ihave ⟨Hb, Hk, Hv⟩ := (Entails.of_eq (show wins c I = iprop(ownsc c xbM fullShare (k0_pay1 (I c).x) ∗ ownsc c kM fullShare (I c).k ∗ ownsc c vM fullShare (I c).v) from rfl)) $$ Hw
  isplitl [Hs]; · iexact Hs
  isplitl [Hk]; · iexact Hk
  isplitl [Hv]; · iexact Hv
  isplitl [Ho]; · iexact Ho
  iexact Hb

end Cert.KernelIdeal.Own
-- ==== Proof.Region.lean ====
/-
  The kernel as the machine runs it on one device: the staging of its windows, and its body between them.
-/
module

public import proofs.«01_k».proof.Proof.Run
public import proofs.«01_k».proof.Proof.Gen.KernelIdeal.Launch
public import Idealize.ShloMosaic.Lib.Pipeline.RegionTalk
public import Idealize.ShloMosaic.Lib.Pipeline.ValueKit.Geometry

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ### The buffers -/

/-- The buffers that are there from the start, and their contents: at launch, after the operations before the kernel,
    after the kernel. -/
def bufs : Finset (DevRef τ sig) := (StableHlo.tcRefs τ sig).filter fun b => ¬ b.isScoped

def V₀ : Valuation τ sig (Elt F) := fun b => m ((c : Dev nD), b)
def V₁ : Valuation τ sig (Elt F) := StableHlo.after hostOps0 (V₀ m c)

/-- What each device's windows hold when the kernel starts. -/
def insOf (c : Dev nD) : Ins F where
  x := V₁ m c main_arg0
  wq := V₁ m c main_arg1
  k := V₁ m c main_v2
  v := V₁ m c main_v6
  wo := V₁ m c main_arg4

def V₂ : Valuation τ sig (Elt F) := Function.update (V₁ m c) (Proc.devRef .tc main_v7) (outVal (insOf m) c)

theorem V₂_out : V₂ m c (Proc.devRef .tc main_v7) = outVal (insOf m) c := Function.update_self ..
theorem V₂_ne (b : DevRef τ sig) (h : b ≠ Proc.devRef .tc main_v7) : V₂ m c b = V₁ m c b := Function.update_of_ne h ..

/-! ### The staging of the windows -/

/-- The invariant of the body: before it the device's part of the exchange, after it every counter at zero. -/
def phi (t : ℕ) : sProp 𝕄 :=
  if t = 0 then iprop((∃ K, records (ownBlk (insOf m)) K) ∗ levAts L lv ∗ exch (F := F) c ∗ Pipeline.scopedRest spec0 c ∗ ∃ r, prngReg c r)
  else iprop(bigSepL allHops (hopEnd (F := F) c) ∗ semVal (barCell c) 0 ∗ Pipeline.scopedRest spec0 c ∗ ∃ r, prngReg c r)

theorem phi_zero : phi m c 0 = iprop((∃ K, records (ownBlk (insOf m)) K) ∗ levAts L lv ∗ exch (F := F) c ∗ Pipeline.scopedRest spec0 c ∗ ∃ r, prngReg c r) := if_pos rfl
theorem phi_pos (t : ℕ) (ht : t ≠ 0) : phi m c t = iprop(bigSepL allHops (hopEnd (F := F) c) ∗ semVal (barCell c) 0 ∗ Pipeline.scopedRest spec0 c ∗ ∃ r, prngReg c r) := if_neg ht

/-- What the device owes before and after the body. -/
def owing (t : ℕ) : CellTallies nD τ sig Unit := if t = 0 then O₀ c else 0
theorem owing_zero : owing c 0 = O₀ c := if_pos rfl
theorem owing_pos (t : ℕ) (ht : t ≠ 0) : owing c t = 0 := if_neg ht

/-- The contents of the windows: the inputs stay, the result window ends at the device's result. -/
def dat (c : Dev nD) : Dat τ (Elt F) Unit ℕ UU ℕ cfg0 c where
  A w := V₁ m c (Pipeline.arrRef spec0 w)
  after
    | 0, _ => (insOf m c).x
    | 1, _ => (insOf m c).wq
    | 2, _ => (insOf m c).k
    | 3, _ => (insOf m c).v
    | 4, _ => (insOf m c).wo
    | 5, _ => outVal (insOf m) c
    | ⟨_ + 6, h⟩, _ => absurd h (Nat.not_lt.2 (Nat.le_add_left _ _))
  Φ t := phi m c t.val
  q _ := fullShare
  owed t := owing c t.val

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dat m

/-- A window that is all of its array is found at the array's contents. -/
theorem before_whole {w : Fin 6} (dt : Dat τ (Elt F) Unit ℕ UU ℕ cfg0 c) (t : Fin cfg0.N) (hf : (cfg0.win w).fetch t = true)
    (hz : ∀ a, (cfg0.win w).index t a = 0) (hx : ∀ a, (cfg0.win w).xsize (cfg0.grid.coords t) a = (cfg0.win w).size a)
    (hs : ∀ a, (cfg0.win w).size a ≤ (cfg0.win w).shape.size a)
    (d : (cfg0.win w).block.Idx → Elt F (cfg0.win w).elt) (j : (cfg0.win w).block.Idx) :
    dt.before w t d j = _root_.cast (congrArg (Elt F) (cfg0.win w).arr.view.elt_eq)
      (dt.A w ((cfg0.win w).arr.view.emb fun a => ⟨(j a).val, Nat.lt_of_lt_of_le (j a).isLt (hs a)⟩)) := by
  unfold Dat.before
  rw [if_pos hf]
  have hm : (cfg0.win w).moved (cfg0.grid.coords t) j = true :=
    ((cfg0.win w).moved_iff _ j).mpr fun a => (hx a).symm ▸ (j a).isLt
  unfold Dat.fetched Pipeline.Window.fill
  rw [dif_pos hm]
  unfold Dat.blockOf
  rw [View.read_apply]
  show _root_.cast _ (dt.A w ((cfg0.win w).arr.view.emb (((cfg0.win w).rect t).emb _))) = _
  congr 3
  funext a
  apply Fin.ext
  rw [Pipeline.Window.rect_emb_val_of_index_zero _ _ _ (hz a)]

theorem before0 (d) : (dat m c).before 0 t0_0 d = (insOf m c).x :=
  funext fun j => before_whole c (dat m c) t0_0 (by decide +kernel) (by decide +kernel) (by decide +kernel) (by decide +kernel) d j
theorem before1 (d) : (dat m c).before 1 t0_0 d = (insOf m c).wq :=
  funext fun j => before_whole c (dat m c) t0_0 (by decide +kernel) (by decide +kernel) (by decide +kernel) (by decide +kernel) d j
theorem before2 (d) : (dat m c).before 2 t0_0 d = (insOf m c).k :=
  funext fun j => before_whole c (dat m c) t0_0 (by decide +kernel) (by decide +kernel) (by decide +kernel) (by decide +kernel) d j
theorem before3 (d) : (dat m c).before 3 t0_0 d = (insOf m c).v :=
  funext fun j => before_whole c (dat m c) t0_0 (by decide +kernel) (by decide +kernel) (by decide +kernel) (by decide +kernel) d j
theorem before4 (d) : (dat m c).before 4 t0_0 d = (insOf m c).wo :=
  funext fun j => before_whole c (dat m c) t0_0 (by decide +kernel) (by decide +kernel) (by decide +kernel) (by decide +kernel) d j

theorem arrAt_out : (dat m c).arrAt 5 cfg0.N = outVal (insOf m) c :=
  (dat m c).arrAt_eq_of_after_last 5 t0_0 (by decide +kernel) _ fun _ => rfl

/-! ### The scoped buffers -/

/-- The buffers the kernel uses itself: the scaled tokens and the four flows. -/
theorem rest_open : (Pipeline.scopedRest (Ix := Unit) (Name := ℕ) (U := UU) (Lvl := ℕ) (Val := Elt F) spec0 c : sProp 𝕄)
    ⊢ iprop((∃ Z : Vec F S512x512 .bf16, ownsc c xbM fullShare Z) ∗ ringsAny (F := F) c) := by
  rw [scopedRest0_eq]
  unfold ringsAny ringAny
  iintro ⟨⟨%f0, H0⟩, ⟨%f1, H1⟩, ⟨%f2, H2⟩, ⟨%f3, H3⟩, ⟨%f4, H4⟩⟩
  isplitl [H0]; · iexists f0; iapply (Entails.of_eq (owns_whole (c : Thread nD τ) cc0_scratch0 fullShare f0).symm); iexact H0
  isplitl [H1]; · iexists f1; iapply (Entails.of_eq (owns_whole (c : Thread nD τ) cc0_scratch1 fullShare f1).symm); iexact H1
  isplitl [H2]; · iexists f2; iapply (Entails.of_eq (owns_whole (c : Thread nD τ) cc0_scratch2 fullShare f2).symm); iexact H2
  isplitl [H3]; · iexists f3; iapply (Entails.of_eq (owns_whole (c : Thread nD τ) cc0_scratch3 fullShare f3).symm); iexact H3
  iexists f4; iapply (Entails.of_eq (owns_whole (c : Thread nD τ) cc0_scratch4 fullShare f4).symm); iexact H4

theorem rest_shut (Z : Vec F S512x512 .bf16) : iprop(ownsc c xbM fullShare Z ∗ ringsAny (F := F) c)
    ⊢ (Pipeline.scopedRest (Ix := Unit) (Name := ℕ) (U := UU) (Lvl := ℕ) (Val := Elt F) spec0 c : sProp 𝕄) := by
  rw [scopedRest0_eq]
  unfold ringsAny ringAny
  iintro ⟨H0, ⟨%f1, H1⟩, ⟨%f2, H2⟩, ⟨%f3, H3⟩, ⟨%f4, H4⟩⟩
  isplitl [H0]; · iexists Z; iapply (Entails.of_eq (owns_whole (c : Thread nD τ) cc0_scratch0 fullShare Z)); iexact H0
  isplitl [H1]; · iexists f1; iapply (Entails.of_eq (owns_whole (c : Thread nD τ) cc0_scratch1 fullShare f1)); iexact H1
  isplitl [H2]; · iexists f2; iapply (Entails.of_eq (owns_whole (c : Thread nD τ) cc0_scratch2 fullShare f2)); iexact H2
  isplitl [H3]; · iexists f3; iapply (Entails.of_eq (owns_whole (c : Thread nD τ) cc0_scratch3 fullShare f3)); iexact H3
  iexists f4; iapply (Entails.of_eq (owns_whole (c : Thread nD τ) cc0_scratch4 fullShare f4)); iexact H4

/-! ### The body between its windows -/

theorem owed_first : (dat m c).owed 0 = O₀ c := owing_zero c
theorem owed_start : (dat m c).owed t0_0.castSucc = O₀ c := owing_zero c
theorem owed_end : (dat m c).owed t0_0.succ = 0 := owing_pos c _ Nat.one_ne_zero
theorem last_ne : (Fin.last cfg0.N).val ≠ 0 := by rw [Fin.val_last, show cfg0.N = 1 from N_0]; exact Nat.one_ne_zero
theorem owed_last : (dat m c).owed (Fin.last cfg0.N) = 0 := owing_pos c _ last_ne

theorem owesAt_intro (dt : Dat τ (Elt F) Unit ℕ UU ℕ cfg0 c) (t : Fin (cfg0.N + 1))
    (O : CellTallies nD τ sig Unit) (h0 : dt.owed t = O) (hr : dt.recorded t = Set.univ) (W : Waits sig Unit) :
    (owes (c : Thread nD τ) O W : sProp 𝕄) ⊢ (dt.owesAt () t : sProp 𝕄) := by
  unfold Dat.owesAt Pipeline.owesWithin Dat.bound
  rw [h0, hr]
  iintro HO
  iexists W
  isplitr
  · ipureintro; exact fun _ _ => Or.inl trivial
  iexact HO
theorem owesAt_elim (dt : Dat τ (Elt F) Unit ℕ UU ℕ cfg0 c) (t : Fin (cfg0.N + 1))
    (O : CellTallies nD τ sig Unit) (h0 : dt.owed t = O) :
    (dt.owesAt () t : sProp 𝕄) ⊢ iprop(∃ W, owes (c : Thread nD τ) O W) := by
  unfold Dat.owesAt Pipeline.owesWithin
  rw [h0]
  iintro ⟨%W, -, HO⟩
  iexists W
  iexact HO

theorem phi_start : (dat m c).Φ t0_0.castSucc = iprop((∃ K, records (ownBlk (insOf m)) K) ∗ levAts L lv ∗ exch (F := F) c ∗ Pipeline.scopedRest spec0 c ∗ ∃ r, prngReg c r) := phi_zero m c
theorem phi_end : (dat m c).Φ t0_0.succ = iprop(bigSepL allHops (hopEnd (F := F) c) ∗ semVal (barCell c) 0 ∗ Pipeline.scopedRest spec0 c ∗ ∃ r, prngReg c r) := phi_pos m c _ Nat.one_ne_zero

/-- The kernel's function called on the staged windows first reads which device it runs on. -/
theorem call_eq : (defs₀ (F := F) .tc cfg0.body (cfg0.bodyArgs t0_0 (cfg0.slots t0_0)) : Prog (TpuEff nD τ sig (Elt F) Λ₀ .tc) PUnit)
    = .op .deviceId fun c => ringProg c := body_eq

/-- A program that does nothing more. -/
theorem fupd_wp_ret (Q : PUnit → sProp 𝕄) : Q ⟨⟩ ⊢ wpc (F := F) c (pure ⟨⟩) Q := by
  show Q ⟨⟩ ⊢ wp frame (wpE (defs₀ (F := F)) 𝒱₀ (c : Thread nD τ) none) Set.univ (.ret ⟨⟩) Q
  rw [wp_ret]
  iintro H
  imodintro
  iexact H

/-- Reading the device number gives the device the program runs on. -/
theorem wpc_device (k : Dev nD → P F PUnit) (Q : PUnit → sProp 𝕄) : wpc c (.op .deviceId k) Q = wpc c (k c) Q :=
  wp_deviceId _ (c : Thread nD τ) none _ (k := k)

/-- The body's run, from the call on. -/
theorem run_all (K : GSem nD τ sig → ℕ) (I : Dev nD → Ins F) (A : FVec F S2x256x512 .f32) (Z : Vec F S512x512 .bf16) (W : Waits sig Unit) (Q : PUnit → sProp 𝕄) :
    iprop(records (ownBlk I) K ∗ levAts L lv ∗ exch (F := F) c ∗ owes (c : Thread nD τ) (O₀ c) W ∗ ringsAny (F := F) c
        ∗ srcs c I ∗ ownsc c kM fullShare (I c).k ∗ ownsc c vM fullShare (I c).v ∗ ownsc c outM fullShare A ∗ ownsc c xbM fullShare Z)
      ⊢ iprop(((bigSepL allHops (hopEnd (F := F) c) ∗ semVal (barCell c) 0 ∗ (∃ W, owes (c : Thread nD τ) (0 : CellTallies nD τ sig Unit) W) ∗ ringsAny (F := F) c
          ∗ srcs c I ∗ ownsc c kM fullShare (I c).k ∗ ownsc c vM fullShare (I c).v ∗ ownsc c outM fullShare (outVal I c) ∗ ownsc c xbM fullShare (k0_pay1 (I c).x)) -∗ Q ⟨⟩)
        -∗ wpc c (.op .deviceId fun c => ringProg c) Q) := by
  rw [wpc_device]
  iintro H Hk
  iapply (Entails.of_eq (congrArg (fun p : P F PUnit => wpc c p Q) (bind_pure (ringProg (F := F) c))))
  iapply (body_run c K I A Z W) $$ H
  iintro H
  iapply (fupd_wp_ret c Q)
  iapply Hk
  iexact H

/-- The kernel's function does with its windows what the contents above say. -/
theorem body_ok : BodyObligation (dat m c) (defs₀ (F := F)) 𝒱₀ () Set.univ := fun t => by
  obtain rfl := fin_N0 t
  rw [bigSep_W0, bigSep_W0, phi_start, phi_end]
  rw [call_eq]
  simp only [before0, before1, before2, before3, before4]
  iintro ⟨⟨⟨%K, #Hrec⟩, #Hlev, Hex, Hrest, Hp⟩, HO, ⟨%d0, H0⟩, ⟨%d1, H1⟩, ⟨%d2, H2⟩, ⟨%d3, H3⟩, ⟨%d4, H4⟩, ⟨%d5, H5⟩⟩
  ihave ⟨%W, HO⟩ := (owesAt_elim c (dat m c) _ (O₀ c) (owed_start m c)) $$ HO
  ihave ⟨⟨%Z, Hb⟩, Hr⟩ := (rest_open (F := F) c) $$ Hrest
  iapply (run_all c K (insOf m) _ Z W _) $$ [Hex HO Hr Hb H0 H1 H2 H3 H4 H5]
  · isplitr; · iexact Hrec
    isplitr; · iexact Hlev
    isplitl [Hex]; · iexact Hex
    isplitl [HO]; · iexact HO
    isplitl [Hr]; · iexact Hr
    isplitl [H0 H1 H4]
    · unfold srcs
      isplitl [H0]; · iexact H0
      isplitl [H1]; · iexact H1
      iexact H4
    isplitl [H2]; · iexact H2
    isplitl [H3]; · iexact H3
    isplitl [H5]; · iexact H5
    iexact Hb
  unfold srcs
  iintro ⟨He, Hv, ⟨%W', HO⟩, Hr, ⟨H0, H1, H4⟩, H2, H3, H5, Hb⟩
  isplitl [He Hv Hr Hb Hp]
  · isplitl [He]; · iexact He
    isplitl [Hv]; · iexact Hv
    isplitl [Hr Hb]
    · iapply (rest_shut c _)
      isplitl [Hb]; · iexact Hb
      iexact Hr
    iexact Hp
  isplitl [HO]; · iapply (owesAt_intro c (dat m c) t0_0.succ 0 (owed_end m c) rfl W'); iexact HO
  isplitl [H0]; · iexact H0
  isplitl [H1]; · iexact H1
  isplitl [H2]; · iexact H2
  isplitl [H3]; · iexact H3
  isplitl [H4]; · iexact H4
  iexact H5

end Cert.KernelIdeal.Own
-- ==== Proof.Ghost.lean ====
/-
  How the launch deals out the exchange: every cell is made with its invariant, the rights to pay in go to the devices that
  do so, and every device gets the credit for what the others owe to its cells.
-/
module

public import proofs.«01_k».proof.Proof.Region
public import Idealize.ShloMosaic.Harness.Basic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Every hop once -/

/-- A family over all hops, listed. -/
theorem hops_list (Φ : Fin 14 → sProp 𝕄) : bigSep Finset.univ Φ = bigSepL allHops Φ :=
  bigSep_univ_eq_bigSepL allHops (by decide) (by decide) Φ

/-- A family over the devices of families over a list, the other way round. -/
theorem swap (l : List (Fin 14)) (Φ : Dev nD → Fin 14 → sProp 𝕄) :
    bigSep Finset.univ (fun c => bigSepL l (Φ c)) = bigSepL l fun h => bigSep Finset.univ fun c => Φ c h := by
  induction l with
  | nil => simp only [bigSepL_nil]; exact BI.bigSep_emp_const _
  | cons h l ih =>
    simp only [bigSepL_cons']
    rw [bigSep_sep', ih]

/-- Both cells of every hop. -/
theorem both_list (Φ : Fin 14 × Bool → sProp 𝕄) : bigSep Finset.univ Φ = bigSepL allHops fun h => iprop(Φ (h, true) ∗ Φ (h, false)) := by
  rw [bigSep_univ_prod, hops_list]
  congr 1
  funext h
  exact bigSep_univ_eq_bigSepL [true, false] (by decide) (by decide) fun b => Φ (h, b)

theorem cells_disjoint : Disjoint barCells scCells := by
  rw [Finset.disjoint_left]
  rintro g h₁ h₂
  obtain ⟨c, -, rfl⟩ := Finset.mem_image.mp h₁
  obtain ⟨p, -, h⟩ := Finset.mem_image.mp h₂
  exact osem_ne_bar p.2 (congrArg Prod.snd h)

theorem barCell_inj : Function.Injective (barCell : Dev nD → GSem nD τ sig) := fun _ _ h => congrArg (fun g : GSem nD τ sig => g.1.1) h
theorem hopCell_inj : Function.Injective (fun p : Dev nD × (Fin 14 × Bool) => hopCell p.1 p.2) := fun _ _ h =>
  Prod.ext (congrArg (fun g : GSem nD τ sig => g.1.1) h) (osem_inj (congrArg Prod.snd h))

theorem over_bar (Φ : GSem nD τ sig → sProp 𝕄) : bigSep barCells Φ = bigSep Finset.univ fun c => Φ (barCell c) :=
  bigSep_image_of_injOn barCell_inj.injOn Φ
theorem over_hops (Φ : GSem nD τ sig → sProp 𝕄) :
    bigSep scCells Φ = bigSep Finset.univ fun c => bigSepL allHops fun h => iprop(Φ (hopCell c (h, true)) ∗ Φ (hopCell c (h, false))) := by
  unfold scCells
  rw [bigSep_image_of_injOn hopCell_inj.injOn Φ, bigSep_univ_prod]
  exact bigSep_congr fun c _ => both_list fun x => Φ (hopCell c x)

/-! ### The rights to pay -/

/-- Two rights for each barrier cell, one for each cell of a hop. -/
def right (p : Dev nD × (Bool ⊕ (Fin 14 × Bool))) : GSem nD τ sig × ℕ × Bool :=
  match p.2 with
  | .inl d => (barCell p.1, 0, d)
  | .inr x => (hopCell p.1 x, 0, true)

theorem right_inj : Function.Injective right := by
  rintro ⟨c, x⟩ ⟨c', y⟩ h
  have hc : c = c' := by
    rcases x with d | x <;> rcases y with d' | y <;> exact congrArg (fun t : GSem nD τ sig × ℕ × Bool => t.1.1.1) h
  subst hc
  rcases x with d | x <;> rcases y with d' | y
  · rw [show d = d' from congrArg (fun t : GSem nD τ sig × ℕ × Bool => t.2.2) h]
  · exact absurd (congrArg (fun t : GSem nD τ sig × ℕ × Bool => t.1.2) h).symm (osem_ne_bar y)
  · exact absurd (congrArg (fun t : GSem nD τ sig × ℕ × Bool => t.1.2) h) (osem_ne_bar x)
  · rw [osem_inj (congrArg (fun t : GSem nD τ sig × ℕ × Bool => t.1.2) h)]

def rights : Finset (GSem nD τ sig × ℕ × Bool) := Finset.univ.map ⟨right, right_inj⟩

/-- The rights of one device's cells. -/
def rightsOf (c : Dev nD) : sProp 𝕄 :=
  iprop((dutyTok ER (barCell c) 0 true ∗ dutyTok ER (barCell c) 0 false)
    ∗ bigSepL allHops fun h => iprop(dutyTok ER (hopCell c (h, true)) 0 true ∗ dutyTok ER (hopCell c (h, false)) 0 true))

theorem rights_eq : bigSep rights (fun x => (dutyTok ER x.1 x.2.1 x.2.2 : sProp 𝕄)) = bigSep Finset.univ fun c : Dev nD => rightsOf (F := F) c := by
  unfold rights
  rw [bigSep_map, bigSep_univ_prod]
  refine bigSep_congr fun c _ => ?_
  rw [bigSep_univ_sum]
  unfold rightsOf
  congr 1
  · exact bigSep_univ_eq_bigSepL [true, false] (by decide) (by decide) fun d => (dutyTok ER (barCell c) 0 d : sProp 𝕄)
  · exact both_list fun x => (dutyTok ER (hopCell c x) 0 true : sProp 𝕄)

def ringL : Dev nD ≃ Dev nD := ⟨Lc, Rc, Rc_Lc, Lc_Rc⟩
def ringR : Dev nD ≃ Dev nD := ⟨Rc, Lc, Lc_Rc, Rc_Lc⟩
def hopRing (h : Fin 14) : Dev nD ≃ Dev nD :=
  ⟨hopDev h, prv (hopR h), fun c => by rw [hopDev_eq, prv_nxt], fun c => by rw [hopDev_eq, nxt_prv]⟩

/-- Two resources in either order. -/
theorem sep_swap (A B : sProp 𝕄) : BI.sep A B = BI.sep B A := BI.equiv_iff.mp ⟨BI.sep_comm, BI.sep_comm⟩

/-- Each right handed to the device that pays in. -/
def payer (c : Dev nD) : sProp 𝕄 :=
  iprop(bigSepL allHops (hopTok (F := F) c) ∗ dutyTok ER (barCell (Lc c)) 0 true ∗ dutyTok ER (barCell (Rc c)) 0 false)

theorem rights_around : (bigSep Finset.univ fun c : Dev nD => rightsOf (F := F) c) = bigSep Finset.univ fun c : Dev nD => payer (F := F) c := by
  have hh : (bigSep Finset.univ fun c : Dev nD => (bigSepL allHops fun h => iprop(dutyTok ER (hopCell c (h, true)) 0 true ∗ dutyTok ER (hopCell c (h, false)) 0 true) : sProp 𝕄))
      = bigSep Finset.univ fun c : Dev nD => bigSepL allHops (hopTok (F := F) c) := by
    rw [swap, swap]
    congr 1
    funext h
    unfold hopTok
    rw [bigSep_sep', bigSep_sep', bigSep_univ_equiv (hopRing h) (fun c : Dev nD => (dutyTok ER (hopCell c (h, false)) 0 true : sProp 𝕄))]
    rfl
  unfold rightsOf payer
  rw [bigSep_sep', bigSep_sep', bigSep_sep', bigSep_sep', hh,
    bigSep_univ_equiv ringL (fun c : Dev nD => (dutyTok ER (barCell c) 0 true : sProp 𝕄)),
    bigSep_univ_equiv ringR (fun c : Dev nD => (dutyTok ER (barCell c) 0 false : sProp 𝕄))]
  exact sep_swap _ _

/-! ### The credit at launch -/

theorem owedHops_at (d c : Dev nD) (h : Fin 14) (l : List (Fin 14)) :
    owedHops d l (hopCell c (h, false)) () = if d = prv (hopR h) c then l.count h * NN else 0 := by
  induction l with
  | nil => rw [List.count_nil, Nat.zero_mul, ite_self]; rfl
  | cons k l ih =>
    rw [owedHops_cons]
    show owedHops d l (hopCell c (h, false)) () + tallyAt (hopCell (hopDev k d) (k, false)) () NN (hopCell c (h, false)) () = _
    rw [ih, tallyAt_apply, List.count_cons]
    by_cases hk : k = h
    · subst hk
      by_cases hd : d = prv (hopR k) c
      · subst hd
        rw [if_pos rfl, if_pos rfl, if_pos ⟨by rw [hopDev_eq, nxt_prv], rfl⟩, if_pos (beq_self_eq_true k), Nat.add_mul, Nat.one_mul]
      · rw [if_neg hd, if_neg hd, if_neg fun e => hd ?_]
        have e' : c = hopDev k d := congrArg (fun g : GSem nD τ sig => g.1.1) e.1
        rw [e', hopDev_eq, prv_nxt]
    · have hb : ¬ ((k == h) = true) := fun e => hk (eq_of_beq e)
      have hc : ¬ (hopCell c (h, false) = hopCell (hopDev k d) (k, false) ∧ () = ()) := fun e =>
        hk (congrArg Prod.fst (osem_inj (a₁ := (h, false)) (a₂ := (k, false)) (congrArg Prod.snd e.1))).symm
      rw [if_neg hb, Nat.add_zero, if_neg hc, Nat.add_zero]

theorem count_one (h : Fin 14) : allHops.count h = 1 := by revert h; decide

theorem owedHops_bar (d c : Dev nD) (l : List (Fin 14)) : owedHops d l (barCell c) () = 0 := by
  refine Nat.eq_zero_of_not_pos fun hp => ?_
  obtain ⟨k, -, e⟩ := owedHops_pos hp
  exact osem_ne_bar (k, false) (congrArg Prod.snd e).symm

theorem bar_tally (e c : Dev nD) : (tallyAt (barCell e) () 1 : CellTallies nD τ sig Unit) (barCell c) () = if e = c then 1 else 0 := by
  rw [tallyAt_apply]
  by_cases h : e = c
  · subst h; rw [if_pos ⟨rfl, rfl⟩, if_pos rfl]
  · rw [if_neg (fun x => h (barCell_inj x.1).symm), if_neg h]

theorem O₀_bar (d c : Dev nD) : O₀ d (barCell c) () = (if d = Lc c then 1 else 0) + (if d = Rc c then 1 else 0) := by
  show owedHops d allHops (barCell c) () + (tallyAt (barCell (Rc d)) () 1 : CellTallies nD τ sig Unit) (barCell c) () + (tallyAt (barCell (Lc d)) () 1 : CellTallies nD τ sig Unit) (barCell c) () = _
  rw [owedHops_bar, bar_tally, bar_tally, Nat.zero_add]
  congr 1
  · exact if_congr ⟨fun e => by rw [← e, Lc_Rc], fun e => by rw [e, Rc_Lc]⟩ rfl rfl
  · exact if_congr ⟨fun e => by rw [← e, Rc_Lc], fun e => by rw [e, Lc_Rc]⟩ rfl rfl

theorem O₀_hop (d c : Dev nD) (h : Fin 14) : O₀ d (hopCell c (h, false)) () = if d = prv (hopR h) c then NN else 0 := by
  have hb (e : Dev nD) : (tallyAt (barCell e) () 1 : CellTallies nD τ sig Unit) (hopCell c (h, false)) () = 0 := by
    rw [tallyAt_apply, if_neg fun x => osem_ne_bar (h, false) (congrArg Prod.snd x.1)]
  show owedHops d allHops (hopCell c (h, false)) () + (tallyAt (barCell (Rc d)) () 1 : CellTallies nD τ sig Unit) (hopCell c (h, false)) () + (tallyAt (barCell (Lc d)) () 1 : CellTallies nD τ sig Unit) (hopCell c (h, false)) () = _
  rw [hb, hb, owedHops_at, count_one, Nat.one_mul]
  rfl

theorem credit_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => O₀_bar d c, Finset.sum_add_distrib,
    Finset.sum_ite_eq' Finset.univ (Lc c) fun _ => 1, Finset.sum_ite_eq' Finset.univ (Rc c) fun _ => 1, if_pos (Finset.mem_univ _), if_pos (Finset.mem_univ _)]
theorem credit_hop (c : Dev nD) (h : Fin 14) :
    tallyOn (hopCell c (h, false)) (launchCredit (Pipeline.owing O₀) 0 (hopCell c (h, false))) = (tallyAt (hopCell c (h, false)) () NN : CellTallies nD τ sig Unit) := by
  unfold tallyAt
  refine congrArg _ (Finsupp.ext fun u => ?_)
  cases u
  rw [Pipeline.launchCredit_owing, Finsupp.single_eq_same, Finset.sum_congr rfl fun d _ => O₀_hop d c h,
    Finset.sum_ite_eq' Finset.univ (prv (hopR h) c) fun _ => NN, if_pos (Finset.mem_univ _)]

/-- The credit a device starts with. -/
def credits (c : Dev nD) : sProp 𝕄 :=
  iprop(cred (tallyAt (barCell c) () 2) ∗ bigSepL allHops fun h => cred (tallyAt (hopCell c (h, false)) () NN))

theorem rcv_inj : Function.Injective fun h : Fin 14 => osem (h, false) := fun _ _ e => congrArg Prod.fst (osem_inj e)

theorem keep_two (A B C : sProp 𝕄) : BI.sep A (BI.sep B C) ⊢ iprop(A ∗ B) := by
  show iprop(A ∗ B ∗ C) ⊢ _
  iintro ⟨HA, HB, -⟩
  isplitl [HA] <;> iassumption

theorem credits_intro (c : Dev nD) : (Pipeline.launchCred O₀ c : sProp 𝕄) ⊢ credits c := by
  unfold Pipeline.launchCred credits
  have hs : Finset.univ.image (fun h : Fin 14 => osem (h, false)) ⊆ Finset.univ.erase (SemLoc.reg barSem) := fun s hs => by
    obtain ⟨h, -, rfl⟩ := Finset.mem_image.mp hs
    exact Finset.mem_erase.mpr ⟨osem_ne_bar _, Finset.mem_univ _⟩
  rw [bigSep_univ_at _ (SemLoc.reg barSem), credit_bar, ← Finset.union_sdiff_of_subset hs, bigSep_union Finset.disjoint_sdiff,
    bigSep_image_of_injOn rcv_inj.injOn, hops_list]
  simp only [credit_hop]
  exact keep_two _ _ _

end Cert.KernelIdeal.Own
-- ==== Proof.Launch.lean ====
/-
  The whole program on the whole machine: the operations before the kernel, the kernel, and what every buffer holds at the
  end.
-/
module

public import proofs.«01_k».proof.Proof.Ghost
public import proofs.«01_k».proof.Proof.Gen.KernelIdeal.Frame
public import Idealize.ShloMosaic.Lib.Pipeline.Regions

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ### The kernel's own semaphores, opened -/

/-- A device's part of the exchange at launch. -/
def linear (c : Dev nD) : sProp 𝕄 :=
  iprop(payer (F := F) c ∗ (bigSepL allHops fun h => iprop(openTok ER (hopCell c (h, true)) ∗ openTok ER (hopCell c (h, false)))) ∗ atPos ER (barCell c) 0 ∅ 0)
def atStart (c : Dev nD) : sProp 𝕄 := iprop((∃ K, records (ownBlk (insOf m)) K) ∗ linear (F := F) c ∗ credits (F := F) c)
def opened (c : Dev nD) : sProp 𝕄 := iprop((∃ K, records (ownBlk (insOf m)) K) ∗ levAts L lv ∗ exch (F := F) c)

/-- The two cells of a hop opened. -/
theorem open_hop (B : (r : Ring) → Dev nD → SlotV F r) (K : GSem nD τ sig → ℕ) (c : Dev nD) (h : Fin 14) :
    iprop(records B K ∗ (openTok ER (hopCell c (h, true)) ∗ openTok ER (hopCell c (h, false)))
        ∗ (semVal (hopCell c (h, true)) 0 ∗ semVal (hopCell c (h, false)) 0) ∗ cred (tallyAt (hopCell c (h, false)) () NN))
      ⊢ (|={Set.univ}=> iprop(hopOpen (F := F) c h ∗ rcvOpen (F := F) c h) : sProp 𝕄) := by
  iintro ⟨#HR, ⟨HoS, HoV⟩, ⟨HsS, HsV⟩, Hc⟩
  imod (Rounds.cell_open ER (ringRd B) (g := hopCell c (h, true)) (Set.mem_univ (K (hopCell c (h, true))))) $$ [HoS HsS] with ⟨HaS, HrS⟩
  · isplitr; · iapply (records_hop B K c (h, true)); iexact HR
    isplitl [HoS] <;> iassumption
  imod (Rounds.cell_open ER (ringRd B) (g := hopCell c (h, false)) (Set.mem_univ (K (hopCell c (h, false))))) $$ [HoV HsV] with ⟨HaV, HrV⟩
  · isplitr; · iapply (records_hop B K c (h, false)); iexact HR
    isplitl [HoV] <;> iassumption
  imodintro
  unfold hopOpen rcvOpen
  isplitr [HrV]
  · isplitl [HaS]; · iexact HaS
    isplitl [HrS]; · iexact HrS
    isplitl [HaV] <;> iassumption
  iexact HrV

/-- An update of every member of a list. -/
theorem update_all (R : sProp 𝕄) [BI.Persistent R] {I : Type} (Φ Ψ Θ : I → sProp 𝕄) (H : ∀ i, iprop(R ∗ Φ i) ⊢ (|={Set.univ}=> iprop(Ψ i ∗ Θ i) : sProp 𝕄)) (l : List I) :
    iprop(R ∗ bigSepL l Φ) ⊢ (|={Set.univ}=> iprop(bigSepL l Ψ ∗ bigSepL l Θ) : sProp 𝕄) := by
  induction l with
  | nil =>
    simp only [bigSepL_nil]
    iintro -
    imodintro
    isplitr <;> iempintro
  | cons i l ih =>
    simp only [bigSepL_cons']
    iintro ⟨#HR, Hi, Hl⟩
    imod (H i) $$ [Hi] with ⟨H1, H2⟩
    · isplitr; · iexact HR
      iexact Hi
    imod ih $$ [Hl] with ⟨H3, H4⟩
    · isplitr; · iexact HR
      iexact Hl
    imodintro
    isplitl [H1 H3]
    · isplitl [H1] <;> iassumption
    isplitl [H2] <;> iassumption

theorem own_list (c : Dev nD) : (Pipeline.ownSems0 osem c : sProp 𝕄) = bigSepL allHops fun h => iprop(semVal (hopCell c (h, true)) 0 ∗ semVal (hopCell c (h, false)) 0) :=
  both_list fun x => (semVal (hopCell c x) 0 : sProp 𝕄)

theorem hopen (c : Dev nD) : iprop(atStart m c ∗ Pipeline.ownSems0 osem c ∗ levAts L lv) ⊢ (|={Set.univ}=> opened m c : sProp 𝕄) := by
  rw [own_list]
  unfold atStart opened linear credits payer exch
  iintro ⟨⟨⟨%K, #HR⟩, ⟨⟨Ht, HtL, HtR⟩, Ho, Ha⟩, Hcb, Hch⟩, Hs, #Hlev⟩
  ihave Hsc := (bigSepL_pair allHops (fun h => iprop(semVal (hopCell c (h, true)) 0 ∗ semVal (hopCell c (h, false)) 0)) (fun h => (cred (tallyAt (hopCell c (h, false)) () NN) : sProp 𝕄))) $$ [Hs Hch]
  · isplitl [Hs] <;> iassumption
  ihave Hall := (bigSepL_pair allHops (fun h => iprop(openTok ER (hopCell c (h, true)) ∗ openTok ER (hopCell c (h, false)))) (fun h => iprop((semVal (hopCell c (h, true)) 0 ∗ semVal (hopCell c (h, false)) 0) ∗ cred (tallyAt (hopCell c (h, false)) () NN)))) $$ [Ho Hsc]
  · isplitl [Ho] <;> iassumption
  imod (update_all (F := F) (records (ownBlk (insOf m)) K) _ _ _ (open_hop (ownBlk (insOf m)) K c) allHops) $$ [Hall] with ⟨H1, H2⟩
  · isplitr; · iexact HR
    iexact Hall
  imodintro
  isplitr; · iexists K; iexact HR
  isplitr; · iexact Hlev
  isplitl [Ht]; · iexact Ht
  isplitl [H1]; · iexact H1
  isplitl [H2]; · iexact H2
  isplitl [HtL]; · iexact HtL
  isplitl [HtR]; · iexact HtR
  isplitl [Ha]; · iexact Ha
  iexact Hcb

/-! ### The two parts of the program -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers before the kernel. -/
def R (c : Dev nD) : sProp 𝕄 := iprop((atStart m c ∗ ∃ r, prngReg c r) ∗ ∃ W, owes (c : Thread nD τ) (O₀ c) W)

theorem ops_sub : ∀ op ∈ (hostOps0 : List (HloOp τ sig (Elt F))), op.bufs ⊆ bufs := fun op hop b hb => by
  refine Finset.mem_filter.mpr ⟨List.forall_iff_forall_mem.mp hostOps0_sub op hop hb, ?_⟩
  have hu : ∀ op ∈ (hostOps0 : List (HloOp τ sig (Elt F))), ∀ b ∈ op.bufs, ¬ b.isScoped = true := by
    simp only [hostOps0, List.forall_mem_cons, List.not_mem_nil, false_imp_iff, implies_true, and_true]
    refine ⟨?_, ?_, ?_, ?_, ?_, ?_, ?_⟩ <;> exact of_decide_eq_true rfl
  exact hu op hop b hb

def seg : ℍ := Pipeline.HostSeg.ofOps _ _ _ _ _ bufs hostOps0 ops_sub (List.forall_iff_forall_mem.mp hostOps0_fresh) (V₀ m) (R m)

theorem cells_inj : Function.Injective (Pipeline.cellOf (nD := nD) (τ := τ) (Pipeline.pin (pcfgs (F := F)) adm)) := cellOf_inj

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 osem := by decide +kernel

/-- Everything owed is owed to a cell above the first level. -/
theorem owed_above {c : Dev nD} {g : GSem nD τ sig} {u : Unit} (h : 0 < O₀ c g u) : u ∈ L g ∧ 0 < lv g u := by
  have hb (e : Dev nD) : () ∈ L (barCell e) ∧ 0 < lv (barCell e) () := ⟨by rw [L_tc]; exact Finset.mem_singleton_self _, by rw [lv_bar]; exact Nat.one_pos⟩
  have ht {e : Dev nD} (h' : 0 < (tallyAt (barCell e) () 1 : CellTallies nD τ sig Unit) g u) : g = barCell e := by
    rw [tallyAt_apply] at h'
    by_contra hne
    rw [if_neg fun x => hne x.1] at h'
    exact absurd h' (Nat.lt_irrefl 0)
  have h' : 0 < owedHops c allHops g u + (tallyAt (barCell (Rc c)) () 1 : CellTallies nD τ sig Unit) g u + (tallyAt (barCell (Lc c)) () 1 : CellTallies nD τ sig Unit) g u := h
  rcases Nat.add_pos_iff_pos_or_pos.mp h' with h' | h'
  · rcases Nat.add_pos_iff_pos_or_pos.mp h' with h' | h'
    · obtain ⟨k, -, rfl⟩ := owedHops_pos h'
      exact ⟨by rw [L_tc]; exact Finset.mem_singleton_self _, by rw [lv_rcv]; omega⟩
    · obtain rfl := ht h'; exact hb _
  · obtain rfl := ht h'; exact hb _

theorem cut (c : Dev nD) (t : Fin ((Pipeline.pin (pcfgs (F := F)) adm 0).N + 1)) (g : GSem nD τ sig) (u : Unit) (h : 0 < (pdats (F := F) m 0 c).owed t g u) :
    u ∈ L g ∧ (0 : ℕ) < lv g u := by
  have e : (pdats (F := F) m 0 c).owed t = if t.val = 0 then O₀ c else 0 := rfl
  rw [e] at h
  split at h
  · exact owed_above h
  · exact absurd h (Nat.lt_irrefl 0)

theorem stage_level (c : Dev nD) (w : Fin 6) (s : Fin (spec0 w).nbuf) : lv ((c : Thread nD τ), .dma ((spec0 w).sem s)) () ≤ 0 := by
  unfold lv
  have hb : (SemLoc.dma ((spec0 w).sem s) : SemLoc sig) ≠ .reg barSem := fun h => nomatch h
  have hh : hopOf (.dma ((spec0 w).sem s)) = none := by
    unfold hopOf
    rw [Finset.filter_false_of_mem fun x _ => own_facts.disj x w s, Finset.toList_empty]
    rfl
  dsimp only
  rw [if_neg hb, hh]

abbrev restRefs : Finset (DevRef τ sig) := bufs \ Pipeline.arrRefs spec0

theorem out_mem : (Proc.devRef .tc main_v7 : DevRef τ sig) ∈ Pipeline.arrRefs (τ := τ) spec0 :=
  Finset.mem_map.mpr ⟨main_v7, Finset.mem_image.mpr ⟨5, Finset.mem_univ _, rfl⟩, rfl⟩

theorem rest_same (c : Dev nD) (b : DevRef τ sig) (hb : b ∈ restRefs \ ∅) : V₂ m c b = V₁ m c b :=
  V₂_ne m c b fun h => (Finset.mem_sdiff.mp (Finset.mem_sdiff.mp hb).1).2 (h ▸ out_mem)

theorem arr_end (c : Dev nD) (w : Fin 6) : (dat m c).arrAt w cfg0.N = V₂ m c (Proc.devRef .tc (Pipeline.arrRef spec0 w)) := by
  have hin (w : Fin 6) (h : (cfg0.win w).isOut = false) (hn : Proc.devRef (τ := τ) .tc (Pipeline.arrRef spec0 w) ≠ Proc.devRef .tc main_v7) :
      (dat m c).arrAt w cfg0.N = V₂ m c (Proc.devRef .tc (Pipeline.arrRef spec0 w)) :=
    ((dat m c).arrAt_in w h _).trans (V₂_ne m c _ hn).symm
  match w with
  | 0 => exact hin 0 rfl (by decide)
  | 1 => exact hin 1 rfl (by decide)
  | 2 => exact hin 2 rfl (by decide)
  | 3 => exact hin 3 rfl (by decide)
  | 4 => exact hin 4 rfl (by decide)
  | 5 => exact (arrAt_out m c).trans (V₂_out m c).symm

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V₁ m c) ∗ opened m c)
    ⊢ (pdats m 0 c).Φ 0 := by
  rw [show (pdats m 0 c).Φ 0 = _ from phi_zero m c]
  unfold opened
  iintro ⟨Hs, Hp, -, HR, Hlev, Hx⟩
  isplitl [HR]; · iexact HR
  isplitl [Hlev]; · iexact Hlev
  isplitl [Hx]; · iexact Hx
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ semVal (barCell c) 0) := by
  rw [show (pdats m 0 c).Φ (Fin.last _) = _ from phi_pos m c _ last_ne, held_none, own_list]
  unfold hopEnd
  iintro ⟨He, Hb, Hs, Hp⟩
  isplitl [Hs]; · iexact Hs
  isplitl [Hp]; · iexact Hp
  isplitr; · iempintro
  isplitl [He] <;> iassumption

set_option backward.isDefEq.respectTransparency.types false in
def reg : ℝ𝕊 0 :=
  Pipeline.RegionSeg.ofTalk (pcfgs (F := F)) adm (pdats m) () defs₀ 𝒱₀ L lv 0 osem own_facts
    ∅ restRefs (Finset.empty_subset _) kit rfl (fun c => (body_ok m c).loose)
    (fun _ => 0) O₀ (fun c => (owed_first m c).trans (zero_add _).symm) (owed_last m) (fun _ => rfl) (fun _ w => by fin_cases w <;> rfl)
    (V₁ m) (V₂ m) (rest_same m)
    (atStart m) (fun c => semVal (barCell c) 0) (opened m) (fun c => semVal (barCell c) 0) (hopen m) (hin m) (hout m)
    (fun c => by iintro H; imodintro; iexact H)
    (fun _ => 0)
    ⟨fun c w s => by rw [L_tc]; exact Finset.mem_singleton_self _, fun c w s => stage_level c w s, fun c t g i h => cut m c t g i h⟩
    (fun _ => iprop(emp))
    (fun _ _ => rfl) (arr_end m)

theorem arr_sub : Pipeline.arrRefs (τ := τ) spec0 ⊆ bufs := by decide +kernel

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) restRefs (V₁ m c) ∗ emp) ∗ atStart m c ∗ ∃ Wd, owes (c : Thread nD τ) (0 + O₀ c) Wd)
  rw [zero_add, StableHlo.held_sub_split (c : Thread nD τ) arr_sub (V₁ m c)]
  unfold R
  iintro ⟨⟨Ha, Hr⟩, ⟨Hs, Hp⟩, HO⟩
  isplitl [Ha]; · iexact Ha
  isplitl [Hp]; · iexact Hp
  isplitl [Hr]
  · isplitl [Hr]; · iexact Hr
    iempintro
  isplitl [Hs] <;> iassumption

theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) restRefs (V₂ m c) ∗ emp) ∗ semVal (barCell c) 0 ∗ ∃ Wd, owes (c : Thread nD τ) (0 : CellTallies nD τ sig Unit) Wd) ⊢ _
  rw [StableHlo.held_sub_split (c : Thread nD τ) arr_sub (V₂ m c)]
  iintro ⟨Ha, -, ⟨Hr, -⟩, Hb, HO⟩
  isplitr [HO]
  · isplitr [Hb]
    · isplitl [Ha] <;> iassumption
    iexact Hb
  iexact HO

def segs : List (Pipeline.Seg (pcfgs (F := F)) adm (pdats m) () defs₀ 𝒱₀ L lv) := [.host (seg m), .region (reg m)]

end Cert.KernelIdeal.Own
-- ==== Proof.Final.lean ====
/-
  The run of the whole program: it ends, with its arguments as they were, every counter at zero, and in the result buffer of
  every device the value the body leaves there.
-/
module

public import proofs.«01_k».proof.Proof.Launch

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-- What is there at launch: the staging cells, and the exchange's cells. -/
def u₀ : UU :=
  (initOf (Pipeline.cells (Pipeline.pin (pcfgs (F := F)) adm) cells_inj) (Pipeline.launchToks (Pipeline.pin (pcfgs (F := F)) adm) cells_inj),
    launchOf barCells scCells rights)

/-- A resource given to one device. -/
def onDev (c₀ : Dev nD) (X : sProp 𝕄) (c : Dev nD) : sProp 𝕄 := if c = c₀ then X else iprop(emp)
theorem over_onDev (c₀ : Dev nD) (X : sProp 𝕄) : bigSep Finset.univ (onDev c₀ X) = X := by
  have h : bigSep (Finset.univ.erase c₀) (onDev c₀ X) = BI.emp :=
    (bigSep_congr fun c hc => by unfold onDev; exact if_neg (Finset.ne_of_mem_erase hc)).trans (BI.bigSep_emp_const _)
  rw [bigSep_univ_at _ c₀, h]
  unfold onDev
  rw [if_pos rfl]
  exact BI.equiv_iff.mp sep_emp

def G : Dev nD → sProp 𝕄 := onDev 0 (BI.own (ER (launchOf barCells scCells rights)))

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sems (c : Dev nD) : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device starts with apart from its part of the exchange. -/
def bundle (c : Dev nD) : sProp 𝕄 :=
  iprop(StableHlo.held (c : Thread nD τ) bufs (V₀ m c) ∗ credits (F := F) c ∗ owes (c : Thread nD τ) (O₀ c) ∅ ∗ ∃ r, prngReg c r)

theorem T₀_intro (κ : GSem nD τ sig → ℕ) (c : Dev nD) : iprop(records (ownBlk (insOf m)) κ ∗ (linear (F := F) c ∗ bundle m c)) ⊢ T₀ m c := by
  unfold bundle T₀ R atStart
  iintro ⟨#HR, Hl, Hh, Hc, HO, Hp⟩
  isplitl [Hh]; · iexact Hh
  isplitr [HO]
  · isplitr [Hp]
    · isplitr; · iexists κ; iexact HR
      isplitl [Hl] <;> iassumption
    iexact Hp
  iexists ∅; iexact HO

/-- A device's launch state, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barCell c) 0 ∗ G (F := F) c)) : sProp 𝕄) := by
  rw [show unscopedBufs c (fun b => m ((c : Thread nD τ).loc b)) = StableHlo.held (c : Thread nD τ) bufs (V₀ m c) from unscoped_held c (V₀ m c), unscoped_sems]
  unfold bundle
  iintro ⟨Hh, Hus, HO, Hcr, Hp, HG⟩
  ihave Hc := (credits_intro (F := F) c) $$ Hcr
  isplitr [Hus HG]
  · isplitl [Hh]; · iexact Hh
    isplitl [Hc]; · iexact Hc
    isplitl [HO]; · iexact HO
    iexists (ρ c); iexact Hp
  isplitl [Hus] <;> iassumption

theorem sorted_all : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G (F := F) c))
    ⊢ (bigSep Finset.univ fun c : Dev nD => iprop(bundle m c ∗ (semVal (barCell c) 0 ∗ G (F := F) c)) : sProp 𝕄) := bigSep_mono fun c _ => sorted m ρ c

theorem G_all : bigSep Finset.univ (G (F := F)) ⊢ BI.own (ER (launchOf barCells scCells rights)) :=
  Entails.of_eq (over_onDev (F := F) 0 (BI.own (ER (launchOf barCells scCells rights))))

theorem bar_vals : bigSep Finset.univ (fun c : Dev nD => (semVal (barCell c) 0 : sProp 𝕄)) ⊢ bigSep barCells (fun g => (semVal g 0 : sProp 𝕄)) :=
  Entails.of_eq (over_bar (F := F) fun g => semVal g 0).symm
theorem bar_pos : bigSep barCells (fun g => (atPos ER g 0 ∅ 0 : sProp 𝕄)) ⊢ bigSep Finset.univ (fun c : Dev nD => (atPos ER (barCell c) 0 ∅ 0 : sProp 𝕄)) :=
  Entails.of_eq (over_bar (F := F) fun g => atPos ER g 0 ∅ 0)
theorem hop_open : bigSep scCells (fun g => (openTok ER g : sProp 𝕄))
    ⊢ bigSep Finset.univ (fun c : Dev nD => bigSepL allHops fun h => iprop(openTok ER (hopCell c (h, true)) ∗ openTok ER (hopCell c (h, false)))) :=
  Entails.of_eq (over_hops (F := F) fun g => openTok ER g)
theorem rights_dealt : bigSep rights (fun x => (dutyTok ER x.1 x.2.1 x.2.2 : sProp 𝕄)) ⊢ bigSep Finset.univ (fun c : Dev nD => payer (F := F) c) :=
  Entails.of_eq ((rights_eq (F := F)).trans rights_around)

/-- The exchange dealt out at launch. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  iintro ⟨H, -⟩
  ihave H' := (sorted_all m ρ) $$ H
  ihave H2 := bigSep_unpair $$ H'; icases H2 with ⟨HB, H3⟩
  ihave H4 := bigSep_unpair $$ H3; icases H4 with ⟨Hv, HG⟩
  ihave Hu := (G_all (F := F)) $$ HG
  imod (Rounds.fund_launch ER (ringRd (ownBlk (insOf m))) cells_disjoint (fun g _ h => h) rights) $$ [Hv Hu] with ⟨%κ, -, #Hinv, #Hr, Hat, Hopen, Htok⟩
  · isplitl [Hv]
    · iapply (bar_vals (F := F)) $$ Hv
    iexact Hu
  imodintro
  iapply (bigSep_with_persistent (R := records (ownBlk (insOf m)) κ) (Φ := fun c => iprop(linear (F := F) c ∗ bundle m c)) fun c _ => T₀_intro m κ c)
  isplitr
  · unfold records
    isplitr; · iexact Hinv
    iexact Hr
  iapply bigSep_pair
  isplitr [HB]
  · unfold linear
    iapply bigSep_pair; isplitl [Htok]; · iapply (rights_dealt (F := F)) $$ Htok
    iapply bigSep_pair; isplitl [Hopen]; · iapply (hop_open (F := F)) $$ Hopen
    iapply (bar_pos (F := F)) $$ Hat
  iexact HB

theorem unscoped_only : ∀ sm : SemLoc sig, sm.isScoped .tc = false → sm = .reg barSem := by decide +kernel

/-- The buffers at the end that the claims speak of. -/
theorem seen (c : Dev nD) (W : Valuation τ sig (Elt F)) : (StableHlo.held (c : Thread nD τ) bufs W : sProp 𝕄) ⊢
    bigSepL [main_arg0, main_arg1, main_arg2, main_arg3, main_arg4, main_v7] fun b => (((c : Thread nD τ).loc b) ↦{fullShare} W (Proc.devRef .tc b)) := by
  have hs : ([main_arg0, main_arg1, main_arg2, main_arg3, main_arg4, main_v7].map (Proc.devRef (τ := τ) (sig := sig) .tc)).toFinset ⊆ bufs := by decide +kernel
  rw [StableHlo.held_sub_split (c : Thread nD τ) hs W]
  unfold StableHlo.held
  rw [bigSep_eq_bigSepL_of_eq _ rfl (by decide +kernel)]
  simp only [List.map, bigSepL_cons', bigSepL_nil]
  iintro ⟨H, -⟩
  iexact H

theorem kept (c : Dev nD) (b : Ref sig .tc) (h : Proc.devRef (τ := τ) .tc b ≠ Proc.devRef .tc main_v7) (hV : V m c b = m ((c : Thread nD τ).loc b)) :
    V₂ m c (Proc.devRef .tc b) = m ((c : Thread nD τ).loc b) := (V₂_ne m c _ h).trans hV

set_option backward.isDefEq.respectTransparency.types false in
/-- From any memory with its counters at zero, the program ends: its arguments are unchanged, every device's result is the
    value of the body, and every counter is zero again. -/
theorem run_main : θ_run defs (onTc (τ := τ) (main (F := F))) (s₀ m ρ)
    (fun r => (∀ c : Dev nD,
        (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v7) = outVal (insOf m) c) ∧ r.2.sem = fun _ => 0) :=
  Pipeline.θ_run_regions_kit_sems (pcfgs (F := F)) adm (pdats m) () cells_inj EP defs₀ 𝒱₀ L lv m ρ main (segs m)
    (fun c Q => by rw [main_segs adm (pdats m) () 𝒱₀ L lv (seg m) (reg m) rfl c, segs])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [over_onDev]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c (Proc.devRef .tc main_arg0)
      ∧ s.mem ((c : Thread nD τ).loc main_arg1) = V₂ m c (Proc.devRef .tc main_arg1)
      ∧ s.mem ((c : Thread nD τ).loc main_arg2) = V₂ m c (Proc.devRef .tc main_arg2)
      ∧ s.mem ((c : Thread nD τ).loc main_arg3) = V₂ m c (Proc.devRef .tc main_arg3)
      ∧ s.mem ((c : Thread nD τ).loc main_arg4) = V₂ m c (Proc.devRef .tc main_arg4)
      ∧ s.mem ((c : Thread nD τ).loc main_v7) = V₂ m c (Proc.devRef .tc main_v7)) ∧ s.sem (barCell c) = 0)
    (hfin := fun c s' => by
      dsimp only [Tₙ]
      iintro ⟨⟨Hh, Hb0⟩, HSI⟩
      ihave Hs := (seen c (V₂ m c)) $$ Hh
      simp only [bigSepL_cons', bigSepL_nil]
      icases Hs with ⟨H0, H1, H2, H3, H4, H5, -⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨⟨h0.trans (kept m c main_arg0 (by decide) (V_main_arg0 m c)), h1.trans (kept m c main_arg1 (by decide) (V_main_arg1 m c)),
          h2.trans (kept m c main_arg2 (by decide) (V_main_arg2 m c)), h3.trans (kept m c main_arg3 (by decide) (V_main_arg3 m c)),
          h4.trans (kept m c main_arg4 (by decide) (V_main_arg4 m c))⟩, h5.trans (V₂_out m c)⟩,
      sem_eq_zero hs fun c sm hsm => by
        obtain rfl := unscoped_only sm hsm
        exact (h c).2⟩)

end Cert.KernelIdeal.Own
-- ==== Proof.Frames.lean ====
/-
  The frames: each program ends with its arguments unchanged and every semaphore counter at zero.
-/
module

public import proofs.«01_k».proof.Defs
public import proofs.«01_k».proof.Proof.Final
public import proofs.«01_k».proof.Proof.Gen.Kernel
public import proofs.«01_k».proof.Proof.Gen.ReferenceIdeal.Run
public import Idealize.ShloMosaic.Lib.QuiescentFlight

@[expose] public section

noncomputable section

namespace Cert.KernelIdeal.Own

open Idealize.ShloMosaic Idealize.SL.Sem

set_option maxRecDepth 65536 in
set_option maxHeartbeats 4000000 in
/-- The two texts' bodies are one program. -/
theorem cc0_body_eq {F : FTy → Type} [FloatOps F] :
    (Cert.Kernel.cc0_body (F := F)) = Cert.KernelIdeal.cc0_body (F := F) := rfl

set_option maxRecDepth 65536 in
set_option maxHeartbeats 4000000 in
/-- The two texts' launches are one launch. -/
theorem defs₀_eq {F : FTy → Type} [FloatOps F] :
    (Cert.Kernel.defs₀ (F := F)) = Cert.KernelIdeal.defs₀ (F := F) := by
  refine congrArg Defs.onTc (funext fun l => funext fun a => ?_)
  match l, a with
  | 0, (t, s) =>
    show Cert.Kernel.cc0_body (F := F) _ _ _ _ _ _ _ _ _ _ _ _ _ _ _ _ _ _ _ _ _ _ _ _ _ _ _ _ _ _ = _
    rw [cc0_body_eq]
  | ⟨_ + 1, h⟩, _ => exact absurd h (by omega)

set_option maxRecDepth 65536 in
set_option maxHeartbeats 4000000 in
/-- The two texts are one program. -/
theorem defs_eq {F : FTy → Type} [FloatOps F] :
    (Cert.Kernel.defs (F := F)) = Cert.KernelIdeal.defs (F := F) := by
  unfold Cert.Kernel.defs Cert.KernelIdeal.defs
  rw [defs₀_eq]
  rfl

set_option maxRecDepth 65536 in
set_option maxHeartbeats 4000000 in
/-- The kernel with floats as bits: the same text as the idealized kernel, so the same run. -/
theorem frame_kernel : Cert.quiescent_Kernel := fun m ρ _ => by
  rw [defs_eq]
  exact (θ_run (Cert.KernelIdeal.defs (F := Bits)) _ _).mono (fun _ h => ⟨fun c => (h.1 c).1, h.2⟩) (run_main (F := Bits) m ρ)

/-- The idealized kernel. -/
theorem frame_kernelIdeal : Cert.quiescent_KernelIdeal := fun m ρ _ =>
  (θ_run (Cert.KernelIdeal.defs (F := Ideal)) _ _).mono (fun _ h => ⟨fun c => (h.1 c).1, h.2⟩) (run_main (F := Ideal) m ρ)

/-- The reference. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩) (Cert.ReferenceIdeal.Value.run m ρ)

/-- The idealized kernel from finite tokens and keys: the run from any arrays. -/
theorem frame_kernelIdeal_pre [hP : Cert.Pre_finite_tokens_and_keys_KernelIdeal.Facts] : Cert.quiescent_KernelIdeal_pre_finite_tokens_and_keys_KernelIdeal := fun m ρ _ =>
  frame_kernelIdeal m ρ trivial

/-- The reference from finite tokens and keys: the run from any arrays. -/
theorem frame_reference_pre [hP : Cert.Pre_finite_tokens_and_keys_ReferenceIdeal.Facts] : Cert.quiescent_ReferenceIdeal_pre_finite_tokens_and_keys_ReferenceIdeal := fun m ρ _ =>
  frame_reference m ρ trivial

end Cert.KernelIdeal.Own

end
-- ==== Proof.Scalars.lean ====
/-
  The arithmetic of the claim, over the extended reals and with no program in it: the quantiser's levels, sums with a
  positive factor, the scores of one row, and one row of masked attention with and without the maximum subtracted.
-/
module

public import Idealize.ShloMosaic.Lib.Pointwise
public import Idealize.ShloMosaic.Lib.IdealHost

@[expose] public section

noncomputable section

namespace Cert.Attn

open Idealize.ShloMosaic

/-! ### The constants -/

/-- The quantiser's scale, its two bounds, the reciprocal of the scale, one eighth, and one eighth of the reciprocal. -/
abbrev cS : EReal := Ideal.ofBits .f32 0x44C67000#32
abbrev cLo : EReal := Ideal.ofBits .f32 0xC2FE0000#32
abbrev cHi : EReal := Ideal.ofBits .f32 0x42FE0000#32
abbrev cInv : EReal := Ideal.ofBits .f32 0x3A25214D#32
abbrev cEighth : EReal := Ideal.ofBits .f32 0x3E000000#32
abbrev cX : EReal := Ideal.ofBits .f32 0x38A5214D#32

/-- The real that the reciprocal's word is. -/
def inv : ℝ := 10821965 * (2 : ℝ) ^ (-34 : ℤ)

theorem inv_pos : 0 < inv := by unfold inv; positivity

theorem cInv_eq : cInv = ((inv : ℝ) : EReal) := by
  unfold inv; simp [cInv, Ideal.ofBits, Ideal.ieee, -EReal.coe_mul]
theorem cEighth_eq : cEighth = ((1 / 8 : ℝ) : EReal) := by
  simp [cEighth, Ideal.ofBits, Ideal.ieee, -EReal.coe_mul]; norm_num
theorem cX_eq : cX = ((inv * (1 / 8) : ℝ) : EReal) := by
  unfold inv; simp [cX, Ideal.ofBits, Ideal.ieee, -EReal.coe_mul]; norm_num
theorem cLo_eq : cLo = ((-127 : ℝ) : EReal) := by
  simp [cLo, Ideal.ofBits, Ideal.ieee, -EReal.coe_mul, -EReal.coe_neg]; norm_num
theorem cHi_eq : cHi = ((127 : ℝ) : EReal) := by
  simp [cHi, Ideal.ofBits, Ideal.ieee, -EReal.coe_mul]; norm_num
theorem negInf_eq : Ideal.ofBits .f32 0xFF800000#32 = (⊥ : EReal) := by
  simp [Ideal.ofBits, Ideal.ieee]

/-! ### The quantiser -/

/-- The weight scaled, rounded and clipped. -/
def clipped (w : EReal) : EReal := min cHi (max cLo (Ideal.liftRound Ideal.roundHalfEven (w * cS)))

/-- The quantised weight's level, an integer. -/
def level (w : EReal) : ℝ := ((Ideal.fptosi 32 (clipped w)).toInt : ℝ)

theorem clipped_real (w : EReal) : ∃ r : ℝ, clipped w = (r : EReal) ∧ -127 ≤ r ∧ r ≤ 127 := by
  have h1 : ((-127 : ℝ) : EReal) ≤ clipped w := by
    unfold clipped; rw [cLo_eq, cHi_eq]
    exact le_min (by norm_cast) (le_max_left _ _)
  have h2 : clipped w ≤ ((127 : ℝ) : EReal) := by
    unfold clipped; rw [cHi_eq]; exact min_le_left _ _
  generalize clipped w = z at h1 h2
  induction z with
  | bot => exact absurd h1 (by simp)
  | top => exact absurd h2 (by simp)
  | coe r => exact ⟨r, rfl, by exact_mod_cast h1, by exact_mod_cast h2⟩

/-- The level read through eight bits is the level read through thirty-two. -/
theorem level8 (w : EReal) : ((Ideal.fptosi 8 (clipped w)).toInt : ℝ) = level w := by
  unfold level
  obtain ⟨r, hr, h1, h2⟩ := clipped_real w
  rw [hr]
  unfold Ideal.fptosi
  rw [Ideal.toIntClamped_coe, Ideal.toIntClamped_coe]
  have ha : (-127 : ℤ) ≤ (if 0 ≤ r then ⌊r⌋ else ⌈r⌉) := by
    split
    · exact Int.le_floor.2 (by push_cast; linarith)
    · have : r ≤ (⌈r⌉ : ℝ) := Int.le_ceil r
      have : ((-127 : ℤ) : ℝ) ≤ ((⌈r⌉ : ℤ) : ℝ) := by push_cast; linarith
      exact_mod_cast this
  have hb : (if 0 ≤ r then ⌊r⌋ else ⌈r⌉) ≤ (127 : ℤ) := by
    split
    · have : (⌊r⌋ : ℝ) ≤ r := Int.floor_le r
      have : ((⌊r⌋ : ℤ) : ℝ) ≤ ((127 : ℤ) : ℝ) := by push_cast; linarith
      exact_mod_cast this
    · exact Int.ceil_le.2 (by push_cast; linarith)
  generalize (if 0 ≤ r then ⌊r⌋ else ⌈r⌉) = t at ha hb
  have e8 : max (-((2 ^ (8 - 1) : ℕ) : ℤ)) (min (((2 ^ (8 - 1) : ℕ) : ℤ) - 1) t) = t := by norm_num; omega
  have e32 : max (-((2 ^ (32 - 1) : ℕ) : ℤ)) (min (((2 ^ (32 - 1) : ℕ) : ℤ) - 1) t) = t := by norm_num; omega
  rw [e8, e32, BitVec.toInt_ofInt, BitVec.toInt_ofInt]
  congr 1
  unfold Int.bmod
  norm_num
  omega

/-! ### Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-! ### The scores -/

/-- The score of one pair of a token and a key, from the levels of the query weights. -/
def score {M D : ℕ} (x : Fin M → ℝ) (n : Fin M → Fin D → ℝ) (k : Fin D → ℝ) : ℝ :=
  (∑ d, (∑ m, x m * n m d) * k d) * (inv * (1 / 8))

/-- The score with the scale on the tokens. -/
theorem score_tokens {M D : ℕ} (x : Fin M → ℝ) (n : Fin M → Fin D → ℝ) (k : Fin D → ℝ) :
    (∑ d, (∑ m, ((x m : EReal) * cX) * (n m d : EReal)) * (k d : EReal)) = (score x n k : EReal) := by
  rw [cX_eq]
  simp only [← EReal.coe_mul, ← coe_sum]
  congr 1
  unfold score
  rw [Finset.sum_mul]
  refine Finset.sum_congr rfl fun d _ => ?_
  rw [Finset.sum_mul, Finset.sum_mul, Finset.sum_mul]
  exact Finset.sum_congr rfl fun m _ => by ring

/-- The score with the scale on the weights and one eighth on the product. -/
theorem score_weights {M D : ℕ} (x : Fin M → ℝ) (n : Fin M → Fin D → ℝ) (k : Fin D → ℝ) :
    (∑ d, (∑ m, (x m : EReal) * ((n m d : EReal) * cInv)) * (k d : EReal)) * cEighth = (score x n k : EReal) := by
  rw [cInv_eq, cEighth_eq]
  simp only [← EReal.coe_mul, ← coe_sum]
  congr 1
  unfold score
  rw [Finset.sum_mul, Finset.sum_mul]
  refine Finset.sum_congr rfl fun d _ => ?_
  rw [Finset.sum_mul, Finset.sum_mul, Finset.sum_mul, Finset.sum_mul]
  exact Finset.sum_congr rfl fun m _ => by ring

/-! ### One row of attention -/

section Row

variable {ι : Type} [Fintype ι]

/-- A score, or minus infinity where the mask forbids it. -/
def masked (m : ι → BitVec 1) (s : ι → ℝ) (j : ι) : EReal := if m j = 1#1 then (s j : EReal) else ⊥

/-- A row's greatest score. -/
def top (m : ι → BitVec 1) (s : ι → ℝ) : EReal := Finset.univ.fold max ⊥ (masked m s)

/-- A row of attention as it is written: the greatest score subtracted, the weights divided by their sum. -/
def rowRef (m : ι → BitVec 1) (s : ι → ℝ) (v : ι → EReal) : EReal :=
  ∑ j, v j * Ideal.div (Ideal.exp (masked m s j - top m s)) (∑ k, Ideal.exp (masked m s k - top m s))

/-- A row of attention as it is computed: values scaled, no greatest score, divided once at the end. -/
def rowKer (m : ι → BitVec 1) (s : ι → ℝ) (v : ι → EReal) : EReal :=
  Ideal.div (∑ j, (if m j = 1#1 then Ideal.exp (s j : EReal) else 0) * (v j * cInv)) (∑ j, if m j = 1#1 then Ideal.exp (s j : EReal) else 0)

theorem top_real (m : ι → BitVec 1) (s : ι → ℝ) (h : ∃ j, m j = 1#1) : ∃ μ : ℝ, top m s = (μ : EReal) := by
  obtain ⟨j, hj⟩ := h
  have h1 : (s j : EReal) ≤ top m s := by
    unfold top
    rw [Finset.le_fold_max]
    exact Or.inr ⟨j, Finset.mem_univ _, by unfold masked; rw [if_pos hj]⟩
  have h2 : top m s < ⊤ := by
    unfold top
    rw [Finset.fold_max_lt]
    refine ⟨bot_lt_top, fun i _ => ?_⟩
    unfold masked
    split
    · exact EReal.coe_lt_top _
    · exact bot_lt_top
  generalize top m s = z at h1 h2
  induction z with
  | bot => exact absurd h1 (by simp)
  | top => exact absurd h2 (by simp)
  | coe r => exact ⟨r, rfl⟩

/-- The two rows agree, up to the scale of the values. -/
theorem row_eq (m : ι → BitVec 1) (s : ι → ℝ) (v : ι → EReal) (h : ∃ j, m j = 1#1) : rowKer m s v = rowRef m s v * cInv := by
  obtain ⟨μ, hμ⟩ := top_real m s h
  obtain ⟨j₀, hj₀⟩ := h
  have ea : ∀ j, (if m j = 1#1 then Ideal.exp (s j : EReal) else 0) = (((if m j = 1#1 then Real.exp (s j) else 0 : ℝ)) : EReal) := fun j => by
    split
    · exact Ideal.exp_coe _
    · exact EReal.coe_zero.symm
  have eb : ∀ j, Ideal.exp (masked m s j - top m s) = (((if m j = 1#1 then Real.exp (s j) else 0) * Real.exp (-μ) : ℝ) : EReal) := fun j => by
    rw [hμ]; unfold masked
    split
    · rw [← EReal.coe_sub, Ideal.exp_coe, ← Real.exp_add]; rfl
    · rw [EReal.bot_sub, Ideal.exp_bot, zero_mul]; exact EReal.coe_zero.symm
  unfold rowKer rowRef
  simp only [ea, eb, ← coe_sum]
  generalize ha : (fun j => (if m j = 1#1 then Real.exp (s j) else 0 : ℝ)) = a
  have ha' : ∀ j, (if m j = 1#1 then Real.exp (s j) else 0 : ℝ) = a j := fun j => congrFun ha j
  simp only [ha']
  have hnn : ∀ j, 0 ≤ a j := fun j => by rw [← ha']; split; exacts [(Real.exp_pos _).le, le_rfl]
  have hA : 0 < ∑ j, a j := Finset.sum_pos' (fun j _ => hnn j) ⟨j₀, Finset.mem_univ _, by rw [← ha', if_pos hj₀]; exact Real.exp_pos _⟩
  have hE : 0 < Real.exp (-μ) := Real.exp_pos _
  have hB : (∑ j, a j * Real.exp (-μ)) = (∑ j, a j) * Real.exp (-μ) := (Finset.sum_mul _ _ _).symm
  rw [hB, Ideal.div_coe hA.ne', cInv_eq, sum_mul_real _ _ (by positivity), sum_mul_real _ _ inv_pos.le]
  refine Finset.sum_congr rfl fun j _ => ?_
  rw [Ideal.div_coe (mul_pos hA hE).ne', ← EReal.coe_mul]
  rw [mul_assoc, mul_assoc (v j), mul_comm ((a j : ℝ) : EReal), mul_assoc, ← EReal.coe_mul, ← EReal.coe_mul, mul_assoc (v j), ← EReal.coe_mul]
  congr 2
  field_simp

end Row

end Cert.Attn

end
-- ==== Proof.KerValue.lean ====
/-
  One contribution of the kernel at an index: attention of the origin's four heads, then the output projection.
-/
module

public import proofs.«01_k».proof.Proof.Body
public import proofs.«01_k».proof.Proof.Scalars

@[expose] public section

set_option maxRecDepth 16384

noncomputable section

namespace Cert.KernelIdeal.Own

open Cert.KernelIdeal Cert.KernelIdeal.Gen Cert.Attn Idealize.ShloMosaic Idealize.ShloMosaic.TcCoe

/-- Attention of one query row over all keys, with the unnormalised weights divided once. -/
def attend (m : Fin 256 → BitVec 1) (q : Fin 64 → EReal) (k : Fin 64 → Fin 256 → EReal) (v : Fin 256 → EReal) : EReal :=
  Ideal.div (∑ x, Scalar.select (m x) (Ideal.exp (∑ y, q y * k y x) * v x) 0) (∑ x, Scalar.select (m x) (Ideal.exp (∑ y, q y * k y x)) 0)

/-- A head at an index. -/
theorem head_apply (mask : IVec S256x256 1) (qh : FVec Ideal S256x64 .bf16) (kh : FVec Ideal S1x64x256 .bf16) (vh : FVec Ideal S1x256x64 .bf16) (i : Fin 256) (d : Fin 64) :
    head mask qh kh vh (ix2 i d) = attend (fun x => mask (ix2 i x)) (fun y => qh (ix2 i y)) (fun y x => kh (ix3 0 y x)) (fun x => vh (ix3 0 x d)) := by
  unfold attend
  pointwise [head]

/-- Column `64 h + d`, head `h`'s column `d`. -/
abbrev col (h : Fin 4) (d : Fin 64) : Fin 256 := ⟨64 * h.val + d.val, by omega⟩

/-- Four blocks side by side, at an index. -/
theorem cat_apply (a : Fin 4 → FVec Ideal S256x64 .bf16) (i : Fin 256) (h : Fin 4) (d : Fin 64) :
    (concatenate S256x256 1 [⟨S256x64, a 0⟩, ⟨S256x64, a 1⟩, ⟨S256x64, a 2⟩, ⟨S256x64, a 3⟩] concatenates_S256x64_S256x64_S256x64_S256x64_S256x256_d1 : FVec Ideal S256x256 .bf16)
      (ix2 i (col h d)) = a h (ix2 i d) := by
  fin_cases h
  · pointwise []
  · pointwise []
  · pointwise []
    rw [dif_neg (by omega), dif_neg (by omega), dif_pos (by omega)]
    exact congrArg (fun z => a 2 (ix2 i z)) (Fin.ext (by show 128 + d.val - 64 - 64 = d.val; omega))
  · pointwise []
    rw [dif_neg (by omega), dif_neg (by omega), dif_neg (by omega)]
    exact congrArg (fun z => a 3 (ix2 i z)) (Fin.ext (by show 192 + d.val - 64 - 64 - 64 = d.val; omega))

/-- The four heads at an index: column `64 h + d` is head `h`'s. -/
theorem heads_apply (mask : IVec S256x256 1) (q : Fin 4 → FVec Ideal S256x64 .bf16) (k : Vec Ideal S1x4x64x256 .bf16) (v : Vec Ideal S1x4x256x64 .bf16) (i : Fin 256) (h : Fin 4) (d : Fin 64) :
    heads mask (q 0) (q 1) (q 2) (q 3) k v (ix2 i (col h d))
      = attend (fun x => mask (ix2 i x)) (fun y => q h (ix2 i y)) (fun y x => k (ix4 0 h y x)) (fun x => v (ix4 0 h x d)) := by
  refine (cat_apply ![head mask (q 0) _ _, head mask (q 1) _ _, head mask (q 2) _ _, head mask (q 3) _ _] i h d).trans ?_
  fin_cases h <;> refine (head_apply _ _ _ _ i d).trans ?_ <;> pointwise []

/-- A column's head, and its place in the head. -/
abbrev hd (t : Fin 256) : Fin 4 := ⟨t.val / 64, by omega⟩
abbrev dm (t : Fin 256) : Fin 64 := ⟨t.val % 64, by omega⟩
theorem col_hd (t : Fin 256) : col (hd t) (dm t) = t := Fin.ext (by show 64 * (t.val / 64) + t.val % 64 = t.val; omega)

/-- Row `i` of batch `b` among the rows of both batches. -/
abbrev row (b : Fin 2) (i : Fin 256) : Fin 512 := ⟨256 * b.val + i.val, by omega⟩

theorem heads_at (mask : IVec S256x256 1) (q0 q1 q2 q3 : FVec Ideal S256x64 .bf16) (k : Vec Ideal S1x4x64x256 .bf16) (v : Vec Ideal S1x4x256x64 .bf16) (i t : Fin 256)
    (Q : Fin 4 → Fin 64 → EReal) (h0 : ∀ y, q0 (ix2 i y) = Q 0 y) (h1 : ∀ y, q1 (ix2 i y) = Q 1 y) (h2 : ∀ y, q2 (ix2 i y) = Q 2 y) (h3 : ∀ y, q3 (ix2 i y) = Q 3 y) :
    heads mask q0 q1 q2 q3 k v (ix2 i t) = attend (fun x => mask (ix2 i x)) (Q (hd t)) (fun y x => k (ix4 0 (hd t) y x)) (fun x => v (ix4 0 (hd t) x (dm t))) := by
  have hQ : ∀ h : Fin 4, (fun y => (![q0, q1, q2, q3] h) (ix2 i y)) = Q h := fun h => by
    funext y
    fin_cases h
    exacts [h0 y, h1 y, h2 y, h3 y]
  rw [← hQ]
  conv_lhs => rw [← col_hd t]
  exact heads_apply mask ![q0, q1, q2, q3] k v i (hd t) (dm t)

/-- A contribution at an index. -/
theorem contrib_apply (mask : IVec S256x256 1) (xb : Vec Ideal S512x512 .bf16) (q : Vec Ideal S1x512x256 .i8) (o : Vec Ideal S1x256x512 .i8)
    (k : Fin 2 → Vec Ideal S1x4x64x256 .bf16) (v : Fin 2 → Vec Ideal S1x4x256x64 .bf16) (b : Fin 2) (i : Fin 256) (e : Fin 512) :
    contrib mask xb q o (k 0) (v 0) (k 1) (v 1) (ix3 b i e)
      = ∑ t : Fin 256, attend (fun x => mask (ix2 i x)) (fun y => ∑ m : Fin 512, xb (ix2 (row b i) m) * (((q (ix3 0 m (col (hd t) y)) : BitVec 8).toInt : ℝ) : EReal))
          (fun y x => k b (ix4 0 (hd t) y x)) (fun x => v b (ix4 0 (hd t) x (dm t))) * (((o (ix3 0 t e) : BitVec 8).toInt : ℝ) : EReal) := by
  fin_cases b
  all_goals
    pointwise [contrib]
    refine Finset.sum_congr rfl fun t _ => ?_
    rw [heads_at (Q := fun h y => ∑ m : Fin 512, xb (ix2 (row _ i) m) * (((q (ix3 0 m (col h y)) : BitVec 8).toInt : ℝ) : EReal))]
    · rfl
    all_goals
      intro y
      pointwise []
      refine Finset.sum_congr rfl fun m _ => congrArg₂ (· * ·) (congrArg xb (congrArg (ix2 · m) (Fin.ext ?_)))
        (congrArg (fun z : Fin 256 => (((q (ix3 0 m z) : BitVec 8).toInt : ℝ) : EReal)) (Fin.ext ?_)) <;> simp

end Cert.KernelIdeal.Own

end
-- ==== Proof.RefStages.lean ====
/-
  The reference's stages: its one result as a composition of short definitions, in the order reference.py writes them.
-/
module

public import proofs.«01_k».proof.Proof.Gen.ReferenceIdeal.Run
public import Idealize.ShloMosaic.Lib.Pointwise

@[expose] public section

noncomputable section

namespace Cert.ReferenceIdeal.Own

open Cert.ReferenceIdeal Cert.ReferenceIdeal.Gen Idealize.ShloMosaic Idealize.ShloMosaic.TcCoe

/-- Quantised query weights: scaled, rounded, clipped, made integers and scaled back. -/
def qwq (w : FVec Ideal S512x2048 .f32) : FVec Ideal S512x2048 .f32 :=
  mulf (sitofp .f32 (fptosi 32 (minimumf (broadcastInDim S512x2048 ![] bcast_S_S512x2048 (id (constant S_ .f32 0x42FE0000#32)))
    (maximumf (broadcastInDim S512x2048 ![] bcast_S_S512x2048 (id (constant S_ .f32 0xC2FE0000#32)))
      (Host.roundeven (mulf w (broadcastInDim S512x2048 ![] bcast_S_S512x2048 (constant S_ .f32 0x44C67000#32))))))))
    (broadcastInDim S512x2048 ![] bcast_S_S512x2048 (constant S_ .f32 0x3A25214D#32))

/-- Quantised output weights, the same way. -/
def qwo (w : FVec Ideal S2048x512 .f32) : FVec Ideal S2048x512 .f32 :=
  mulf (sitofp .f32 (fptosi 32 (minimumf (broadcastInDim S2048x512 ![] bcast_S_S2048x512 (id (constant S_ .f32 0x42FE0000#32)))
    (maximumf (broadcastInDim S2048x512 ![] bcast_S_S2048x512 (id (constant S_ .f32 0xC2FE0000#32)))
      (Host.roundeven (mulf w (broadcastInDim S2048x512 ![] bcast_S_S2048x512 (constant S_ .f32 0x44C67000#32))))))))
    (broadcastInDim S2048x512 ![] bcast_S_S2048x512 (constant S_ .f32 0x3A25214D#32))

/-- The queries of every head. -/
def queries (x : FVec Ideal S2x2048x512 .f32) (wq : FVec Ideal S512x2048 .f32) : FVec Ideal S2x2048x32x64 .f32 :=
  shapeCast S2x2048x32x64 (Host.dotGeneral dot_S2x2048x512_S512x2048_S2x2048x2048_2_0_01_1_n_n none x (qwq wq)) shapeCasts_S2x2048x2048_S2x2048x32x64

/-- The block number of every token: its row divided by 64. -/
def tokBlock : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- The block number of every key. -/
def keyBlock : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The token blocks as a column, and the key blocks as a row. -/
def tokCol : IVec S2048x1 32 := broadcastInDim S2048x1 ![0] bcast_S2048_S2048x1_0 tokBlock
def keyRow : IVec S1x256 32 := broadcastInDim S1x256 ![1] bcast_S256_S1x256_1 keyBlock

/-- The two block numbers added. -/
def blockSum : IVec S2048x256 32 :=
  addi (broadcastInDim S2048x256 ![0, 1] bcast_S2048x1_S2048x256_0_1 tokCol) (broadcastInDim S2048x256 ![0, 1] bcast_S1x256_S2048x256_0_1 keyRow)

/-- The divisor of the remainder: 3, or 1 were it 0. -/
def three : IVec S_ 32 := select (cmpi .eq (id (constantI S_ 32 3#32)) (constantI S_ 32 0#32)) (constantI S_ 32 1#32) (id (constantI S_ 32 3#32))

/-- The remainder before its sign is mended. -/
def rem0 : IVec S2048x256 32 := Host.remsi blockSum (broadcastInDim S2048x256 ![] bcast_S_S2048x256 three)

/-- The sum of the block numbers modulo 3. -/
def blockRem : IVec S2048x256 32 :=
  select (andi (cmpi .ne (cmpi .slt rem0 (broadcastInDim S2048x256 ![] bcast_S_S2048x256 (constantI S_ 32 0#32)))
        (broadcastInDim S2048x256 ![] bcast_S_S2048x256 (cmpi .slt three (constantI S_ 32 0#32))))
      (cmpi .ne rem0 (broadcastInDim S2048x256 ![] bcast_S_S2048x256 (constantI S_ 32 0#32))))
    (addi rem0 (broadcastInDim S2048x256 ![] bcast_S_S2048x256 three)) rem0

/-- Which keys a token attends to. -/
def mask : IVec S2048x256 1 :=
  ori (ori (cmpi .eq (broadcastInDim S2048x256 ![0, 1] bcast_S2048x1_S2048x256_0_1 tokCol) (broadcastInDim S2048x256 ![0, 1] bcast_S1x256_S2048x256_0_1 keyRow))
      (broadcastInDim S2048x256 ![0, 1] bcast_S1x256_S2048x256_0_1 (cmpi .eq keyRow (broadcastInDim S1x256 ![] bcast_S_S1x256 (constantI S_ 32 0#32)))))
    (cmpi .eq blockRem (broadcastInDim S2048x256 ![] bcast_S_S2048x256 (constantI S_ 32 0#32)))

/-- The scores, minus infinity where the mask forbids. -/
def scores (q : FVec Ideal S2x2048x32x64 .f32) (k : FVec Ideal S2x256x32x64 .f32) : FVec Ideal S2x32x2048x256 .f32 :=
  select (broadcastInDim S2x32x2048x256 ![0, 1, 2, 3] bcast_S1x1x2048x256_S2x32x2048x256_0_1_2_3 (broadcastInDim S1x1x2048x256 ![2, 3] bcast_S2048x256_S1x1x2048x256_2_3 mask))
    (mulf (Host.dotGeneral dot_S2x2048x32x64_S2x256x32x64_S2x32x2048x256_3_3_1_1_02_02 none q k) (broadcastInDim S2x32x2048x256 ![] bcast_S_S2x32x2048x256 (constant S_ .f32 0x3E000000#32)))
    (broadcastInDim S2x32x2048x256 ![] bcast_S_S2x32x2048x256 (id (constant S_ .f32 0xFF800000#32)))

/-- The exponentials of the scores less their row's greatest. -/
def expo (s : FVec Ideal S2x32x2048x256 .f32) : FVec Ideal S2x32x2048x256 .f32 :=
  Host.exp (subf s (broadcastInDim S2x32x2048x256 ![0, 1, 2, 3] bcast_S2x32x2048x1_S2x32x2048x256_0_1_2_3
    (broadcastInDim S2x32x2048x1 ![0, 1, 2] bcast_S2x32x2048_S2x32x2048x1_0_1_2 (Host.reduce FloatOps.maximumf s (constant S_ .f32 0xFF800000#32) reducesTo_S2x32x2048x256_S2x32x2048_d3 h_S_))))

/-- Whether a token attends to any key. -/
def keep : IVec S2048 1 := Host.reduce IntOp.ori mask (constantI S_ 1 0#1) reducesTo_S2048x256_S2048_d1 h_S_

/-- The attention weights: the exponentials over their sum. -/
def weights (w : FVec Ideal S2x32x2048x256 .f32) : FVec Ideal S2x32x2048x256 .f32 :=
  select (broadcastInDim S2x32x2048x256 ![0, 1, 2, 3] bcast_S1x1x2048x1_S2x32x2048x256_0_1_2_3 (broadcastInDim S1x1x2048x1 ![2] bcast_S2048_S1x1x2048x1_2 keep))
    (Host.divf w (broadcastInDim S2x32x2048x256 ![0, 1, 2, 3] bcast_S2x32x2048x1_S2x32x2048x256_0_1_2_3
      (select (broadcastInDim S2x32x2048x1 ![0, 1, 2, 3] bcast_S1x1x2048x1_S2x32x2048x1_0_1_2_3 (broadcastInDim S1x1x2048x1 ![2] bcast_S2048_S1x1x2048x1_2 keep))
        (broadcastInDim S2x32x2048x1 ![0, 1, 2] bcast_S2x32x2048_S2x32x2048x1_0_1_2 (Host.reduceAdd w (constant S_ .f32 0x00000000#32) reducesTo_S2x32x2048x256_S2x32x2048_d3 h_S_))
        (broadcastInDim S2x32x2048x1 ![] bcast_S_S2x32x2048x1 (id (constant S_ .f32 0x3F800000#32))))))
    (broadcastInDim S2x32x2048x256 ![] bcast_S_S2x32x2048x256 (id (constant S_ .f32 0x00000000#32)))

/-- The attended values, heads side by side. -/
def context (w : FVec Ideal S2x32x2048x256 .f32) (v : FVec Ideal S2x256x32x64 .f32) : FVec Ideal S2x2048x2048 .f32 :=
  shapeCast S2x2048x2048 (transpose S2x2048x32x64 [0, 3, 1, 2] (Host.dotGeneral dot_S2x256x32x64_S2x32x2048x256_S2x32x64x2048_1_3_3_2_02_01 none v w) transposes_S2x32x64x2048_S2x2048x32x64_0_3_1_2) shapeCasts_S2x2048x32x64_S2x2048x2048

/-- The whole reference. -/
def whole (x : FVec Ideal S2x2048x512 .f32) (wq : FVec Ideal S512x2048 .f32) (k v : FVec Ideal S2x256x32x64 .f32) (wo : FVec Ideal S2048x512 .f32) : FVec Ideal S2x2048x512 .f32 :=
  Host.dotGeneral dot_S2x2048x2048_S2048x512_S2x2048x512_2_0_01_1_n_n none (context (weights (expo (scores (queries x wq) k))) v) (qwo wo)

set_option maxRecDepth 65536 in
set_option maxHeartbeats 4000000 in
/-- The reference's result is the composition of the stages. -/
theorem res_eq (m : (ℓ : Loc nD τ sig) → Buf (Elt Ideal) ℓ) (c : Dev nD) :
    Value.res_main_v60 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v60
  rfl

end Cert.ReferenceIdeal.Own

end
-- ==== Proof.Masks.lean ====
/-
  The block mask at an index, in the kernel and in the reference: a token's block and a key's block decide.
-/
module

public import proofs.«01_k».proof.Proof.Body
public import proofs.«01_k».proof.Proof.RefStages
public import Idealize.ShloMosaic.Lib.Pointwise
public import Idealize.ShloMosaic.Lib.IdealHost
public import Idealize.ShloMosaic.Lib.Routing.OpsOrder

@[expose] public section

set_option maxRecDepth 16384

noncomputable section

open Idealize.ShloMosaic

namespace Cert.Attn

/-- Whether a token of block `a` attends to a key of block `b`, as a bit. -/
def attends (a b : ℕ) : BitVec 1 := if a = b ∨ b = 0 ∨ (a + b) % 3 = 0 then 1#1 else 0#1

/-- Every token attends to the first key. -/
theorem attends_zero (a : ℕ) : attends a 0 = 1#1 := by unfold attends; simp

end Cert.Attn

namespace Cert.KernelIdeal.Own

open Cert.KernelIdeal Cert.KernelIdeal.Gen Cert.Attn Idealize.ShloMosaic.TcCoe

theorem keyBlock_apply (i j : Fin 256) : k0_pay12 (iota .tc S256x256 32 [1] iota_S256x256_d1_w32) (ix2 i j) = BitVec.ofNat 32 (j.val / 64) := by
  pointwise [k0_pay12]
  clear i; revert j; decide +kernel

theorem tokBlock_apply (c : Dev nD) (i j : Fin 256) :
    k0_pay11 (Scalar.muli (Scalar.remsi (Scalar.divsi (Dev.word c) 1#32) 8#32) 4#32) k0_pay8 k0_pay9 k0_pay10 (ix2 i j) = BitVec.ofNat 32 (4 * c.val + i.val / 64) := by
  pointwise [k0_pay11, k0_pay8, k0_pay9, k0_pay10]
  have h1 : ∀ c : Dev nD, Scalar.muli (Scalar.remsi (Scalar.divsi (Dev.word c) 1#32) 8#32) 4#32 = BitVec.ofNat 32 (4 * c.val) := by decide +kernel
  rw [h1, BitVec.ofNat_add]
  clear j; revert i; intro i
  congr 1
  revert i; decide +kernel

/-- The kernel's mask of device `c`. -/
theorem maskOf_apply (c : Dev nD) (i j : Fin 256) : maskOf c (ix2 i j) = attends (4 * c.val + i.val / 64) (j.val / 64) := by
  have hk := keyBlock_apply i j
  have ht := tokBlock_apply c i j
  generalize ek : k0_pay12 (iota .tc S256x256 32 [1] iota_S256x256_d1_w32) = kb at hk
  generalize et : k0_pay11 (Scalar.muli (Scalar.remsi (Scalar.divsi (Dev.word c) 1#32) 8#32) 4#32) k0_pay8 k0_pay9 k0_pay10 = tb at ht
  unfold maskOf
  pointwise [k0_pay16, k0_pay15, k0_pay14, k0_pay13, ek, et]
  rw [hk, ht]
  have ha : 4 * c.val + i.val / 64 < 32 := by have := c.isLt; have : c.val < 8 := this; omega
  have hb : j.val / 64 < 4 := by omega
  generalize 4 * c.val + i.val / 64 = a at ha
  generalize j.val / 64 = b at hb
  revert a b
  decide +kernel

end Cert.KernelIdeal.Own

namespace Cert.ReferenceIdeal.Own

open Cert.ReferenceIdeal Cert.ReferenceIdeal.Gen Cert.Attn Idealize.ShloMosaic.TcCoe

theorem tokBlock_apply (i : Fin 2048) : tokBlock (ix1 i) = BitVec.ofNat 32 (i.val / 64) := by
  pointwise [tokBlock]
  revert i; decide +kernel

theorem keyBlock_apply (j : Fin 256) : keyBlock (ix1 j) = BitVec.ofNat 32 (j.val / 64) := by
  pointwise [keyBlock]
  revert j; decide +kernel

/-- The reference's mask. -/
theorem mask_apply (i : Fin 2048) (j : Fin 256) : mask (ix2 i j) = attends (i.val / 64) (j.val / 64) := by
  pointwise [mask, blockRem, rem0, three, blockSum, tokCol, keyRow]
  rw [tokBlock_apply, keyBlock_apply]
  have ha : i.val / 64 < 32 := by omega
  have hb : j.val / 64 < 4 := by omega
  generalize i.val / 64 = a at ha
  generalize j.val / 64 = b at hb
  revert a b
  decide +kernel

/-- Every token attends to some key. -/
theorem keep_apply (i : Fin 2048) : keep (ix1 i) = 1#1 := by
  pointwise [keep]
  exact (Routing.fold_ori _ _).2 ⟨0, Finset.mem_univ _, (mask_apply i 0).trans (attends_zero _)⟩

end Cert.ReferenceIdeal.Own

end
-- ==== Proof.KerSum.lean ====
/-
  A device's result at an index: the sum, over the devices that the weight blocks come from, of that block's contribution.
-/
module

public import proofs.«01_k».proof.Proof.KerValue
public import proofs.«01_k».proof.Proof.Masks
public import proofs.«01_k».proof.Proof.Final

@[expose] public section

set_option maxRecDepth 16384

noncomputable section

namespace Cert.KernelIdeal.Own

open Cert.KernelIdeal Cert.KernelIdeal.Gen Cert.Attn Idealize.ShloMosaic Idealize.ShloMosaic.TcCoe

/-! ### Windows of keys and values -/

/-- The windows read the heads of device `o`, in either batch. -/
def At (p : Offs) (o : Dev nD) : Prop :=
  (p.k0 = ![0, 4 * o.val, 0, 0] ∧ p.v0 = ![0, 4 * o.val, 0, 0]) ∧ p.k1 = ![1, 4 * o.val, 0, 0] ∧ p.v1 = ![1, 4 * o.val, 0, 0]

instance (p : Offs) (o : Dev nD) : Decidable (At p o) := by unfold At; infer_instance

theorem offOwn_at (c : Dev nD) : At (offOwn c) c := by revert c; decide +kernel
theorem offL_at (c : Dev nD) (j : Fin 4) : At (offL c j) (Lc^[j.val + 1] c) := by revert c j; decide +kernel
theorem offR_at (c : Dev nD) (j : Fin 3) : At (offR c j) (Rc^[j.val + 1] c) := by revert c j; decide +kernel

/-- Head `h` of device `o` among all. -/
abbrev dhd (o : Dev nD) (h : Fin 4) : Fin 32 := ⟨4 * o.val + h.val, by have : o.val < 8 := o.isLt; omega⟩

theorem kRect_emb (off : Fin 4 → ℕ) (hb : ∀ a, off a + S1x4x64x256.size a ≤ S2x32x64x256.size a) (b : Fin 2) (o : Dev nD) (e : off = ![b.val, 4 * o.val, 0, 0]) (h : Fin 4) (y : Fin 64) (x : Fin 256) :
    (kRect off hb).emb (ix4 0 h y x) = ix4 b (dhd o h) y x := by
  subst e
  funext a
  apply Fin.ext
  rw [Rect.emb_apply]
  fin_cases a <;> simp [ix4, Rect.unit]

theorem vRect_emb (off : Fin 4 → ℕ) (hb : ∀ a, off a + S1x4x256x64.size a ≤ S2x32x256x64.size a) (b : Fin 2) (o : Dev nD) (e : off = ![b.val, 4 * o.val, 0, 0]) (h : Fin 4) (x : Fin 256) (y : Fin 64) :
    (vRect off hb).emb (ix4 0 h x y) = ix4 b (dhd o h) x y := by
  subst e
  funext a
  apply Fin.ext
  rw [Rect.emb_apply]
  fin_cases a <;> simp [ix4, Rect.unit]

/-! ### What the windows hold -/

variable (m : (ℓ : Loc nD τ sig) → Buf (Elt Ideal) ℓ) (c : Dev nD)

/-- A device's arguments as arrays. -/
abbrev argX : FVec Ideal S2x256x512 .f32 := m ((c : Thread nD τ).loc main_arg0)
abbrev argWq : FVec Ideal S512x256 .f32 := m ((c : Thread nD τ).loc main_arg1)
abbrev argK : FVec Ideal S2x256x32x64 .f32 := m ((c : Thread nD τ).loc main_arg2)
abbrev argV : FVec Ideal S2x256x32x64 .f32 := m ((c : Thread nD τ).loc main_arg3)
abbrev argWo : FVec Ideal S256x512 .f32 := m ((c : Thread nD τ).loc main_arg4)

theorem ins_x : (insOf m c).x = argX m c := by
  unfold insOf V₁; simp only [hostOps0]; after_results_simp; rfl
theorem ins_wq : (insOf m c).wq = argWq m c := by
  unfold insOf V₁; simp only [hostOps0]; after_results_simp; rfl
theorem ins_wo : (insOf m c).wo = argWo m c := by
  unfold insOf V₁; simp only [hostOps0]; after_results_simp; rfl
theorem ins_k : (insOf m c).k = truncf .bf16 (transpose S2x32x64x256 [0, 2, 3, 1] (argK m c) transposes_S2x256x32x64_S2x32x64x256_0_2_3_1) bitsLt_bf16_f32 := by
  unfold insOf V₁; simp only [hostOps0]; after_results_simp; rfl
theorem ins_v : (insOf m c).v = truncf .bf16 (mulf (transpose S2x32x256x64 [0, 2, 1, 3] (argV m c) transposes_S2x256x32x64_S2x32x256x64_0_2_1_3)
    (broadcastInDim S2x32x256x64 ![] bcast_S_S2x32x256x64 (constant S_ .f32 0x3A25214D#32))) bitsLt_bf16_f32 := by
  unfold insOf V₁; simp only [hostOps0]; after_results_simp; rfl

theorem ins_k_apply (b : Fin 2) (h : Fin 32) (y : Fin 64) (x : Fin 256) : (insOf m c).k (ix4 b h y x) = argK m c (ix4 b x h y) := by
  rw [ins_k]; pointwise []
theorem ins_v_apply (b : Fin 2) (h : Fin 32) (x : Fin 256) (y : Fin 64) : (insOf m c).v (ix4 b h x y) = argV m c (ix4 b x h y) * cInv := by
  rw [ins_v]; pointwise []

/-! ### One contribution from the arguments -/

theorem tokens_apply (x : Vec Ideal S2x256x512 .f32) (b : Fin 2) (i : Fin 256) (t : Fin 512) : k0_pay1 x (ix2 (row b i) t) = (x : FVec Ideal S2x256x512 .f32) (ix3 b i t) * cX := by
  pointwise [k0_pay1]
  exact congrArg₂ (fun (p : Fin 2) (r : Fin 256) => (x : FVec Ideal S2x256x512 .f32) (ix3 p r t) * cX)
    (Fin.ext (by show (256 * b.val + i.val) / 256 = b.val; omega)) (Fin.ext (by show (256 * b.val + i.val) % 256 = i.val; omega))

theorem levelQ_apply (w : Vec Ideal S512x256 .f32) (r : Fin 512) (t : Fin 256) :
    ((((shapeCast S1x512x256 (k0_pay2 w) shapeCasts_S512x256_S1x512x256 : IVec S1x512x256 8) (ix3 0 r t)).toInt : ℝ) : EReal) = (level ((w : FVec Ideal S512x256 .f32) (ix2 r t)) : EReal) := by
  rw [← level8]
  pointwise [k0_pay2]
  rfl

theorem levelO_apply (w : Vec Ideal S256x512 .f32) (t : Fin 256) (e : Fin 512) :
    ((((shapeCast S1x256x512 (k0_pay3 w) shapeCasts_S256x512_S1x256x512 : IVec S1x256x512 8) (ix3 0 t e)).toInt : ℝ) : EReal) = (level ((w : FVec Ideal S256x512 .f32) (ix2 t e)) : EReal) := by
  rw [← level8]
  pointwise [k0_pay3]
  rfl

/-- The attention row of device `c`'s token `i` for column `t` of device `o`'s heads. -/
def partRow (o : Dev nD) (b : Fin 2) (i t : Fin 256) : EReal :=
  attend (fun x => attends (4 * c.val + i.val / 64) (x.val / 64))
    (fun y => ∑ r : Fin 512, (argX m c (ix3 b i r) * cX) * (level (argWq m o (ix2 r (col (hd t) y))) : EReal))
    (fun y x => argK m c (ix4 b x (dhd o (hd t)) y)) (fun x => argV m c (ix4 b x (dhd o (hd t)) (dm t)) * cInv)

/-- What device `o`'s weight blocks contribute to device `c`'s result. -/
def share (b : Fin 2) (i : Fin 256) (e : Fin 512) (o : Dev nD) : EReal := ∑ t : Fin 256, partRow m c o b i t * (level (argWo m o (ix2 t e)) : EReal)

theorem part_apply (o : Dev nD) (p : Offs) (hp : At p o) (b : Fin 2) (i : Fin 256) (e : Fin 512) :
    part (insOf m) c (shapeCast S1x512x256 (k0_pay2 (insOf m o).wq) shapeCasts_S512x256_S1x512x256 : IVec S1x512x256 8)
      (shapeCast S1x256x512 (k0_pay3 (insOf m o).wo) shapeCasts_S256x512_S1x256x512 : IVec S1x256x512 8) p (ix3 b i e) = share m c b i e o := by
  obtain ⟨⟨e1, e2⟩, e3, e4⟩ := hp
  unfold part share
  refine (contrib_apply _ _ _ _ ![_, _] ![_, _] b i e).trans ?_
  refine Finset.sum_congr rfl fun t _ => ?_
  unfold partRow
  rw [levelO_apply, ins_wo]
  simp only [levelQ_apply, ins_wq, tokens_apply, ins_x, maskOf_apply]
  have hk : ∀ (h : Fin 4) (y : Fin 64) (x : Fin 256), (![fun j => (insOf m c).k ((kRect p.k0 p.hk0).emb j), fun j => (insOf m c).k ((kRect p.k1 p.hk1).emb j)] : Fin 2 → Vec Ideal S1x4x64x256 .bf16) b (ix4 0 h y x)
      = argK m c (ix4 b x (dhd o h) y) := fun h y x => by
    fin_cases b
    · exact (congrArg (insOf m c).k (kRect_emb p.k0 p.hk0 0 o e1 h y x)).trans (ins_k_apply m c _ _ _ _)
    · exact (congrArg (insOf m c).k (kRect_emb p.k1 p.hk1 1 o e3 h y x)).trans (ins_k_apply m c _ _ _ _)
  have hv : ∀ (h : Fin 4) (x : Fin 256) (y : Fin 64), (![fun j => (insOf m c).v ((vRect p.v0 p.hv0).emb j), fun j => (insOf m c).v ((vRect p.v1 p.hv1).emb j)] : Fin 2 → Vec Ideal S1x4x256x64 .bf16) b (ix4 0 h x y)
      = argV m c (ix4 b x (dhd o h) y) * cInv := fun h x y => by
    fin_cases b
    · exact (congrArg (insOf m c).v (vRect_emb p.v0 p.hv0 0 o e2 h x y)).trans (ins_v_apply m c _ _ _ _)
    · exact (congrArg (insOf m c).v (vRect_emb p.v1 p.hv1 1 o e4 h x y)).trans (ins_v_apply m c _ _ _ _)
  simp only [hk, hv]

/-! ### The result -/

/-- Three hops either way and a fourth one way meet every device once. -/
theorem devs_perm (c : Dev nD) :
    (Finset.univ : Finset (Dev nD)).val = ↑[c, Lc^[1] c, Rc^[1] c, Lc^[2] c, Rc^[2] c, Lc^[3] c, Rc^[3] c, Lc^[4] c] := by
  revert c; decide +kernel

theorem last_eq (c : Dev nD) : Rc^[4] c = Lc^[4] c := by revert c; decide +kernel

theorem sum_devs (f : Dev nD → EReal) :
    f c + f (Lc^[1] c) + f (Rc^[1] c) + f (Lc^[2] c) + f (Rc^[2] c) + f (Lc^[3] c) + f (Rc^[3] c) + f (Lc^[4] c) = ∑ o : Dev nD, f o := by
  unfold Finset.sum
  rw [devs_perm c]
  simp only [Multiset.map_coe, Multiset.sum_coe, List.map_cons, List.map_nil, List.sum_cons, List.sum_nil, add_zero, add_assoc]

theorem plus_apply (a y : FVec Ideal S2x256x512 .f32) (b : Fin 2) (i : Fin 256) (e : Fin 512) : plus a y (ix3 b i e) = a (ix3 b i e) + y (ix3 b i e) := by
  pointwise [plus]

/-- A device's result is the sum of the contributions. -/
theorem out_apply (b : Fin 2) (i : Fin 256) (e : Fin 512) : outVal (insOf m) c (ix3 b i e) = ∑ o : Dev nD, share m c b i e o := by
  have h0 : partOwn (insOf m) c (ix3 b i e) = share m c b i e c := part_apply m c c _ (offOwn_at c) b i e
  have hL : ∀ j : Fin 3, partL (insOf m) c j (ix3 b i e) = share m c b i e (Lc^[j.val + 1] c) := fun j => part_apply m c _ _ (offL_at c ⟨j.val, by omega⟩) b i e
  have hR : ∀ j : Fin 3, partR (insOf m) c j (ix3 b i e) = share m c b i e (Rc^[j.val + 1] c) := fun j => part_apply m c _ _ (offR_at c j) b i e
  have h4 : partLast (insOf m) c (ix3 b i e) = share m c b i e (Lc^[4] c) := by
    unfold partLast
    have : slotVal (ownBlk (insOf m)) .lo 4 c = (shapeCast S1x256x512 (k0_pay3 (insOf m (Lc^[4] c)).wo) shapeCasts_S256x512_S1x256x512 : IVec S1x256x512 8) := by
      rw [← last_eq]; rfl
    rw [this]
    exact part_apply m c _ _ (offL_at c 3) b i e
  rw [← sum_devs c]
  unfold outVal plusBoth
  simp only [plus_apply, h0, hL, hR, h4]
  rfl

end Cert.KernelIdeal.Own

end
-- ==== Proof.RefValue.lean ====
/-
  The reference's stages at an index, and its result as sums over the attention rows of finite tokens and keys.
-/
module

public import proofs.«01_k».proof.Proof.Masks
public import proofs.«01_k».proof.Proof.Scalars

@[expose] public section

set_option maxRecDepth 16384

noncomputable section

namespace Cert.ReferenceIdeal.Own

open Cert.ReferenceIdeal Cert.ReferenceIdeal.Gen Cert.Attn Idealize.ShloMosaic Idealize.ShloMosaic.TcCoe

/-- Column `64 h + d` of the 2048, head `h`'s column `d`; and a column's head and its place there. -/
abbrev gcol (h : Fin 32) (d : Fin 64) : Fin 2048 := ⟨64 * h.val + d.val, by omega⟩
abbrev ghd (t : Fin 2048) : Fin 32 := ⟨t.val / 64, by omega⟩
abbrev gdm (t : Fin 2048) : Fin 64 := ⟨t.val % 64, by omega⟩

theorem qwq_apply (w : FVec Ideal S512x2048 .f32) (m : Fin 512) (t : Fin 2048) : qwq w (ix2 m t) = (level (w (ix2 m t)) : EReal) * cInv := by
  pointwise [qwq]
  rfl

theorem qwo_apply (w : FVec Ideal S2048x512 .f32) (t : Fin 2048) (e : Fin 512) : qwo w (ix2 t e) = (level (w (ix2 t e)) : EReal) * cInv := by
  pointwise [qwo]
  rfl

theorem queries_apply (x : FVec Ideal S2x2048x512 .f32) (wq : FVec Ideal S512x2048 .f32) (b : Fin 2) (i : Fin 2048) (h : Fin 32) (d : Fin 64) :
    queries x wq (ix4 b i h d) = ∑ m : Fin 512, x (ix3 b i m) * ((level (wq (ix2 m (gcol h d))) : EReal) * cInv) := by
  pointwise [queries]
  refine Finset.sum_congr rfl fun m _ => ?_
  rw [qwq_apply]
  exact congrArg (fun z => x (ix3 b i m) * ((level (wq (ix2 m z)) : EReal) * cInv)) (Fin.ext (by show h.val * 64 + d.val = 64 * h.val + d.val; omega))

theorem scores_apply (q : FVec Ideal S2x2048x32x64 .f32) (k : FVec Ideal S2x256x32x64 .f32) (b : Fin 2) (h : Fin 32) (i : Fin 2048) (j : Fin 256) :
    scores q k (ix4 b h i j) = if attends (i.val / 64) (j.val / 64) = 1#1 then (∑ d : Fin 64, q (ix4 b i h d) * k (ix4 b j h d)) * cEighth else ⊥ := by
  pointwise [scores]
  rw [mask_apply]
  show Scalar.select _ _ (Ideal.ofBits .f32 0xFF800000#32) = _
  rw [negInf_eq]
  rfl

theorem expo_apply (s : FVec Ideal S2x32x2048x256 .f32) (b : Fin 2) (h : Fin 32) (i : Fin 2048) (j : Fin 256) :
    expo s (ix4 b h i j) = Ideal.exp (s (ix4 b h i j) - Finset.univ.fold max ⊥ (fun j => s (ix4 b h i j))) := by
  pointwise [expo]
  rw [negInf_eq]

theorem weights_apply (w : FVec Ideal S2x32x2048x256 .f32) (b : Fin 2) (h : Fin 32) (i : Fin 2048) (j : Fin 256) :
    weights w (ix4 b h i j) = Ideal.div (w (ix4 b h i j)) (∑ k : Fin 256, w (ix4 b h i k)) := by
  pointwise [weights]
  rw [keep_apply]
  rfl

theorem context_apply (w : FVec Ideal S2x32x2048x256 .f32) (v : FVec Ideal S2x256x32x64 .f32) (b : Fin 2) (i t : Fin 2048) :
    context w v (ix3 b i t) = ∑ j : Fin 256, v (ix4 b j (ghd t) (gdm t)) * w (ix4 b (ghd t) i j) := by
  pointwise [context]

theorem whole_apply (x : FVec Ideal S2x2048x512 .f32) (wq : FVec Ideal S512x2048 .f32) (k v : FVec Ideal S2x256x32x64 .f32) (wo : FVec Ideal S2048x512 .f32) (b : Fin 2) (i : Fin 2048) (e : Fin 512) :
    whole x wq k v wo (ix3 b i e) = ∑ t : Fin 2048, context (weights (expo (scores (queries x wq) k))) v (ix3 b i t) * ((level (wo (ix2 t e)) : EReal) * cInv) := by
  pointwise [whole]
  exact Finset.sum_congr rfl fun t _ => by rw [qwo_apply]

/-- The attention row of token `i`, whose tokens and keys are the reals `x` and `k`, for column `t` of the context. -/
def refRow (x : S2x2048x512.Idx → ℝ) (wq : FVec Ideal S512x2048 .f32) (k : S2x256x32x64.Idx → ℝ) (v : FVec Ideal S2x256x32x64 .f32) (b : Fin 2) (i t : Fin 2048) : EReal :=
  rowRef (fun j : Fin 256 => attends (i.val / 64) (j.val / 64))
    (fun j => score (fun m : Fin 512 => x (ix3 b i m)) (fun m (d : Fin 64) => level (wq (ix2 m (gcol (ghd t) d)))) (fun d => k (ix4 b j (ghd t) d)))
    (fun j => v (ix4 b j (ghd t) (gdm t)))

/-- The context of finite tokens and keys is the attention rows'. -/
theorem context_row (x : S2x2048x512.Idx → ℝ) (wq : FVec Ideal S512x2048 .f32) (k : S2x256x32x64.Idx → ℝ) (v : FVec Ideal S2x256x32x64 .f32) (b : Fin 2) (i t : Fin 2048) :
    context (weights (expo (scores (queries (fun j => (x j : EReal)) wq) (fun j => (k j : EReal))))) v (ix3 b i t) = refRow x wq k v b i t := by
  have hs : ∀ j : Fin 256, scores (queries (fun j => (x j : EReal)) wq) (fun j => (k j : EReal)) (ix4 b (ghd t) i j)
      = masked (fun j : Fin 256 => attends (i.val / 64) (j.val / 64))
        (fun j => score (fun m : Fin 512 => x (ix3 b i m)) (fun m (d : Fin 64) => level (wq (ix2 m (gcol (ghd t) d)))) (fun d => k (ix4 b j (ghd t) d))) j := fun j => by
    rw [scores_apply]
    simp only [queries_apply]
    rw [score_weights]
    rfl
  rw [context_apply]
  unfold refRow rowRef top
  refine Finset.sum_congr rfl fun j _ => ?_
  rw [weights_apply]
  simp only [expo_apply, hs]

/-- The reference's result at an index. -/
theorem ref_apply (x : S2x2048x512.Idx → ℝ) (wq : FVec Ideal S512x2048 .f32) (k : S2x256x32x64.Idx → ℝ) (v : FVec Ideal S2x256x32x64 .f32) (wo : FVec Ideal S2048x512 .f32)
    (b : Fin 2) (i : Fin 2048) (e : Fin 512) :
    whole (fun j => (x j : EReal)) wq (fun j => (k j : EReal)) v wo (ix3 b i e) = ∑ t : Fin 2048, refRow x wq k v b i t * ((level (wo (ix2 t e)) : EReal) * cInv) := by
  rw [whole_apply]
  exact Finset.sum_congr rfl fun t _ => by rw [context_row]

end Cert.ReferenceIdeal.Own

end
-- ==== Proof.Finite.lean ====
/-
  What the precondition says: every token and every key of a device is a real number.
-/
module

public import proofs.«01_k».proof.Pre_finite_tokens_and_keys_KernelIdeal
public import Idealize.ShloMosaic.Lib.ReduceAll
public import Idealize.ShloMosaic.Lib.Pointwise
public import Idealize.ShloMosaic.Lib.IdealHost

@[expose] public section

set_option maxRecDepth 16384

noncomputable section

namespace Cert.Attn

open Idealize.ShloMosaic Cert.Pre_finite_tokens_and_keys_KernelIdeal

/-- A value whose magnitude compares below infinity is a real number. -/
theorem real_of_lt (a : EReal) (h : Ideal.cmp .olt (max a (-a)) (Ideal.ofBits .f32 0x7F800000#32) = 1#1) : ∃ r : ℝ, a = (r : EReal) := by
  have ht : Ideal.ofBits .f32 0x7F800000#32 = (⊤ : EReal) := by simp [Ideal.ofBits, Ideal.ieee]
  rw [ht] at h
  induction a with
  | bot => simp [Ideal.cmp] at h
  | top => simp [Ideal.cmp] at h
  | coe r => exact ⟨r, rfl⟩

theorem below_apply {S : Shape} (x : FVec Ideal S .f32) (hb : (⟨0, ![]⟩ : Shape).BroadcastsInDim S (![] : Fin 0 → Fin S.rank)) (i : S.Idx) :
    cmpf .olt (Host.absf x) (broadcastInDim S ![] hb (constant ⟨0, ![]⟩ .f32 0x7F800000#32)) i = Ideal.cmp .olt (max (x i) (-(x i))) (Ideal.ofBits .f32 0x7F800000#32) := by
  rfl

instance : Subsingleton S_.Idx := ⟨fun i j => funext fun a => a.elim0⟩

/-- The precondition's function is true only of real tokens and real keys. -/
theorem real_of_fn [Facts] (x : FVec Ideal S2x256x512 .f32) (wq : FVec Ideal S512x256 .f32) (k v : FVec Ideal S2x256x32x64 .f32) (wo : FVec Ideal S256x512 .f32)
    (h : fn (F := Ideal) x wq k v wo = fun _ => 1#1) : (∀ i, ∃ r : ℝ, x i = (r : EReal)) ∧ ∀ i, ∃ r : ℝ, k i = (r : EReal) := by
  have h0 := congrFun h ix0
  dsimp only [fn] at h0
  have h1 : IntOp.andi _ _ = 1#1 := h0
  obtain ⟨ha, hb⟩ := IntOp.andi_eq_one.1 h1
  exact ⟨fun i => real_of_lt _ ((below_apply x _ i).symm.trans (Host.reduce_andi_all _ _ _ _ _ ha i)),
    fun i => real_of_lt _ ((below_apply k _ i).symm.trans (Host.reduce_andi_all _ _ _ _ _ hb i))⟩

end Cert.Attn

end
-- ==== Proof.Equation.lean ====
/-
  The equation: every device's result is its block of the reference's result.
-/
module

public import proofs.«01_k».proof.Defs
public import proofs.«01_k».proof.Proof.KerSum
public import proofs.«01_k».proof.Proof.RefValue
public import proofs.«01_k».proof.Proof.Finite
public import Idealize.ShloMosaic.Lib.LayoutAt
public import Idealize.ShloMosaic.Lib.Pipeline.ValueKit.Acc

@[expose] public section

set_option maxRecDepth 16384

noncomputable section

namespace Cert.KernelIdeal.Own

open Cert.KernelIdeal Cert.KernelIdeal.Gen Cert.Attn Idealize.ShloMosaic Idealize.ShloMosaic.TcCoe
open Cert.ReferenceIdeal.Own (gcol ghd gdm refRow whole ref_apply)

/-- Place `i` of device `c`'s block of an axis of 2048. -/
abbrev at256 (c : Dev nD) (i : Fin 256) : Fin 2048 := ⟨256 * c.val + i.val, by have : c.val < 8 := c.isLt; omega⟩

variable (m : (ℓ : Loc nD τ sig) → Buf (Elt Ideal) ℓ)

/-- A row of a device's contribution is the reference's row with the scale as a factor. -/
theorem partRow_eq (x : Cert.ReferenceIdeal.S2x2048x512.Idx → ℝ) (wq : FVec Ideal Cert.ReferenceIdeal.S512x2048 .f32) (k : Cert.ReferenceIdeal.S2x256x32x64.Idx → ℝ) (v : FVec Ideal Cert.ReferenceIdeal.S2x256x32x64 .f32)
    (c o : Dev nD) (b : Fin 2) (i t : Fin 256)
    (hx : ∀ r, argX m c (ix3 b i r) = (x (ix3 b (at256 c i) r) : EReal)) (hq : ∀ r s, argWq m o (ix2 r s) = wq (ix2 r (at256 o s)))
    (hk : ∀ j, argK m c j = (k j : EReal)) (hv : ∀ j, argV m c j = v j) :
    partRow m c o b i t = refRow x wq k v b (at256 c i) (at256 o t) * cInv := by
  have hc : c.val < 8 := c.isLt
  have ho : o.val < 8 := o.isLt
  have e1 : ghd (at256 o t) = dhd o (hd t) := by apply Fin.ext; show (256 * o.val + t.val) / 64 = 4 * o.val + t.val / 64; omega
  have e2 : gdm (at256 o t) = dm t := by apply Fin.ext; show (256 * o.val + t.val) % 64 = t.val % 64; omega
  have e3 : ∀ y : Fin 64, at256 o (col (hd t) y) = gcol (dhd o (hd t)) y := fun y => by
    apply Fin.ext; show 256 * o.val + (64 * (t.val / 64) + y.val) = 64 * (4 * o.val + t.val / 64) + y.val; omega
  have e4 : (at256 c i).val / 64 = 4 * c.val + i.val / 64 := by show (256 * c.val + i.val) / 64 = _; omega
  unfold partRow refRow
  rw [← row_eq _ _ _ ⟨0, by simp [attends_zero]⟩]
  unfold attend rowKer
  simp only [hx, hq, hk, hv, e1, e2, e3, e4, score_tokens]
  have hs : ∀ (p : BitVec 1) (a : EReal), Scalar.select p a 0 = if p = 1#1 then a else 0 := fun p a => rfl
  simp only [hs, ite_mul, zero_mul]

/-- A sum over 2048 columns is a sum over eight devices of sums over their 256. -/
theorem sum_blocks (f : Fin 2048 → EReal) : ∑ t : Fin 2048, f t = ∑ o : Dev nD, ∑ t : Fin 256, f (at256 o t) := by
  rw [← Fin.sum_mul_add_fin 8 256 f rfl]
  exact Finset.sum_congr rfl fun o _ => Finset.sum_congr rfl fun t _ => congrArg f (Fin.ext (by show o.val * 256 + t.val = 256 * o.val + t.val; omega))

/-! ### Blocks of whole arrays at an index -/

theorem block_tokens (X : FVec Ideal Cert.ReferenceIdeal.S2x2048x512 .f32) (h : Layout.Tiles S2x256x512 Cert.ReferenceIdeal.S2x2048x512 1 8) (c : Dev nD) (b : Fin 2) (i : Fin 256) (r : Fin 512) :
    Layout.block S2x256x512 Cert.ReferenceIdeal.S2x2048x512 1 8 c X h (ix3 b i r) = X (ix3 b (at256 c i) r) := by
  shard_norm
  refine congrArg X ?_
  shard_ext

theorem block_wq (w : FVec Ideal Cert.ReferenceIdeal.S512x2048 .f32) (h : Layout.Tiles S512x256 Cert.ReferenceIdeal.S512x2048 1 8) (c : Dev nD) (r : Fin 512) (t : Fin 256) :
    Layout.block S512x256 Cert.ReferenceIdeal.S512x2048 1 8 c w h (ix2 r t) = w (ix2 r (at256 c t)) := by
  shard_norm
  refine congrArg w ?_
  shard_ext

theorem block_wo (w : FVec Ideal Cert.ReferenceIdeal.S2048x512 .f32) (h : Layout.Tiles S256x512 Cert.ReferenceIdeal.S2048x512 0 8) (c : Dev nD) (t : Fin 256) (e : Fin 512) :
    Layout.block S256x512 Cert.ReferenceIdeal.S2048x512 0 8 c w h (ix2 t e) = w (ix2 (at256 c t) e) := by
  shard_norm
  refine congrArg w ?_
  shard_ext

/-- A device's result at an index is the reference's at the index of the whole array. -/
theorem out_eq (X : FVec Ideal Cert.ReferenceIdeal.S2x2048x512 .f32) (wq : FVec Ideal Cert.ReferenceIdeal.S512x2048 .f32) (K V : FVec Ideal Cert.ReferenceIdeal.S2x256x32x64 .f32) (wo : FVec Ideal Cert.ReferenceIdeal.S2048x512 .f32)
    (hx : ∀ c b i r, argX m c (ix3 b i r) = X (ix3 b (at256 c i) r)) (hq : ∀ o r s, argWq m o (ix2 r s) = wq (ix2 r (at256 o s)))
    (hk : ∀ c, argK m c = K) (hv : ∀ c, argV m c = V) (ho : ∀ o t e, argWo m o (ix2 t e) = wo (ix2 (at256 o t) e))
    (fx : ∀ c j, ∃ r : ℝ, argX m c j = (r : EReal)) (fk : ∀ j, ∃ r : ℝ, K j = (r : EReal))
    (c : Dev nD) (b : Fin 2) (i : Fin 256) (e : Fin 512) :
    outVal (insOf m) c (ix3 b i e) = whole X wq K V wo (ix3 b (at256 c i) e) := by
  have fX : ∀ j, ∃ r : ℝ, X j = (r : EReal) := fun j => by
    obtain ⟨b, i, r, rfl⟩ : ∃ b i r, j = ix3 b i r := ⟨j 0, j 1, j 2, eq_ix3 j⟩
    obtain ⟨s, hs⟩ := fx ⟨i.val / 256, by show i.val / 256 < 8; omega⟩ (ix3 b ⟨i.val % 256, by omega⟩ r)
    refine ⟨s, ?_⟩
    rw [← hs, hx]
    congr 2
    apply Fin.ext
    show i.val = 256 * (i.val / 256) + i.val % 256
    omega
  choose x hxr using fX
  choose k hkr using fk
  obtain rfl : X = fun j => (x j : EReal) := funext hxr
  obtain rfl : K = fun j => (k j : EReal) := funext hkr
  rw [out_apply, ref_apply, sum_blocks]
  refine Finset.sum_congr rfl fun o _ => ?_
  unfold share
  refine Finset.sum_congr rfl fun t _ => ?_
  rw [partRow_eq m x wq k V c o b i t (hx c b i) (hq o) (fun j => congrFun (hk c) j) (fun j => congrFun (hv c) j), ho, mul_assoc, mul_comm cInv]

set_option maxHeartbeats 1000000 in
/-- Over the extended reals, from finite tokens and keys, every device ends holding its block of the reference's result. -/
theorem algebraic [hP : Cert.Pre_finite_tokens_and_keys_KernelIdeal.Facts] : Cert.algebraic_KernelIdeal_ReferenceIdeal_pre_finite_tokens_and_keys_KernelIdeal := by
  intro m g m' g' hpre hargs
  refine ⟨Cert.ReferenceIdeal.Value.res_main_v60 m' 0, ?_, ?_⟩
  · refine (θ_run _ _ _).mono (fun r h c => ⟨?_, (h.1 c).1⟩) (run_main (F := Ideal) m g)
    refine (h.1 c).2.trans ?_
    rw [Cert.ReferenceIdeal.Own.res_eq]
    funext j
    obtain ⟨b, i, e, rfl⟩ : ∃ (b : Fin 2) (i : Fin 256) (e : Fin 512), j = ix3 b i e := ⟨j 0, j 1, j 2, eq_ix3 j⟩
    refine (out_eq m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (fun c b i r => (congrFun (hargs c).1 (ix3 b i r)).trans (block_tokens _ _ c b i r))
      (fun o r s => (congrFun (hargs o).2.1 (ix2 r s)).trans (block_wq _ _ o r s))
      (fun c => (hargs c).2.2.1) (fun c => (hargs c).2.2.2.1)
      (fun o t e => (congrFun (hargs o).2.2.2.2 (ix2 t e)).trans (block_wo _ _ o t e))
      (fun c => (real_of_fn _ _ _ _ _ (hpre c)).1)
      (fun j => by rw [← (hargs 0).2.2.1]; exact (real_of_fn _ _ _ _ _ (hpre 0)).2 j) c b i e).trans ?_
    exact (block_tokens _ _ c b i e).symm
  · exact (θ_run _ _ _).mono (fun r h => h 0) (Cert.ReferenceIdeal.Value.run m' g')

end Cert.KernelIdeal.Own

end
-- ==== Proof.lean ====
/-
  The certificate: the witnesses of the stated facts, and the claims.
-/
module

public import proofs.«01_k».proof.Defs
public import proofs.«01_k».proof.Proof.Frames
public import proofs.«01_k».proof.Proof.Equation

@[expose] public section

noncomputable section

namespace Cert.Proof

/-- The shape relations of the precondition over a device's blocks. -/
theorem preKernelFacts : Cert.Pre_finite_tokens_and_keys_KernelIdeal.Facts := by
  constructor <;> decide

/-- The shape relations of the precondition over whole arrays. -/
theorem preReferenceFacts : Cert.Pre_finite_tokens_and_keys_ReferenceIdeal.Facts := by
  constructor <;> decide

/-- Everything this certificate claims. -/
theorem claim : Cert.Claim :=
  ⟨Cert.Kernel.Gen.facts, Cert.KernelIdeal.Gen.facts, Cert.ReferenceIdeal.Gen.facts, preKernelFacts, preReferenceFacts,
    Cert.KernelIdeal.Own.frame_kernel, Cert.KernelIdeal.Own.frame_kernelIdeal, Cert.KernelIdeal.Own.frame_kernelIdeal_pre (hP := preKernelFacts),
    Cert.KernelIdeal.Own.frame_reference, Cert.KernelIdeal.Own.frame_reference_pre (hP := preReferenceFacts), trivial,
    Cert.KernelIdeal.Own.algebraic (hP := preKernelFacts)⟩

end Cert.Proof

end
